-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.bf16_pair.BufferStatement Cert.KernelIdeal.S4x14x2x512 Cert.KernelIdeal.S4x14x1x512
  ∧ IdealRules.bf16_pair.BufferStatement Cert.KernelIdeal.S56x2x512 Cert.KernelIdeal.S56x1x512
  ∧ IdealRules.truncf_extf.Statement Cert.KernelIdeal.S64x96 .f32 .bf16
  ∧ IdealRules.bf16_pair.PackStatement Cert.KernelIdeal.S14x512
  ∧ IdealRules.bf16_pair.Statement Cert.KernelIdeal.S1x14x2x512 Cert.KernelIdeal.S1x14x1x512
  ∧ IdealRules.bf16_pair.Statement Cert.KernelIdeal.S14x2x256 Cert.KernelIdeal.S14x1x256
  ∧ IdealRules.bf16_pair.Statement Cert.KernelIdeal.S28x256 Cert.KernelIdeal.S14x256
  ∧ IdealRules.truncf_extf.Statement Cert.KernelIdeal.S32x96 .f32 .bf16
  ∧ IdealRules.bf16_pair.PackStatement Cert.KernelIdeal.S56x512
  ∧ IdealRules.bf16_pair.Statement Cert.KernelIdeal.S56x2x512 Cert.KernelIdeal.S56x1x512
  ∧ IdealRules.bf16_pair.Statement Cert.KernelIdeal.S56x2x256 Cert.KernelIdeal.S56x1x256
  ∧ IdealRules.bf16_pair.Statement Cert.KernelIdeal.S112x256 Cert.KernelIdeal.S56x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_1)) (v1 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_1) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x3584 : Shape := ⟨3, ![96, 1, 3584]⟩
abbrev S96 : Shape := ⟨1, ![96]⟩
abbrev S1792x28672 : Shape := ⟨2, ![1792, 28672]⟩
abbrev S28x28672 : Shape := ⟨2, ![28, 28672]⟩
abbrev S7168x3584 : Shape := ⟨2, ![7168, 3584]⟩
abbrev S112x3584 : Shape := ⟨2, ![112, 3584]⟩
abbrev S9x3584x64 : Shape := ⟨3, ![9, 3584, 64]⟩
abbrev S9x2x32x14336 : Shape := ⟨4, ![9, 2, 32, 14336]⟩
abbrev S9x14336x32 : Shape := ⟨3, ![9, 14336, 32]⟩
abbrev S9x32x3584 : Shape := ⟨3, ![9, 32, 3584]⟩
abbrev S9 : Shape := ⟨1, ![9]⟩
abbrev S96x3584 : Shape := ⟨2, ![96, 3584]⟩
abbrev S1x96 : Shape := ⟨2, ![1, 96]⟩
abbrev S9x64x3584 : Shape := ⟨3, ![9, 64, 3584]⟩
abbrev S576x3584 : Shape := ⟨2, ![576, 3584]⟩
abbrev S9x32x14336 : Shape := ⟨3, ![9, 32, 14336]⟩
abbrev S96x14336 : Shape := ⟨2, ![96, 14336]⟩
abbrev S96x64 : Shape := ⟨2, ![96, 64]⟩
abbrev S96x32 : Shape := ⟨2, ![96, 32]⟩
abbrev S1792x512 : Shape := ⟨2, ![1792, 512]⟩
abbrev S28x512 : Shape := ⟨2, ![28, 512]⟩
abbrev S9x2x32x512 : Shape := ⟨4, ![9, 2, 32, 512]⟩
abbrev S9x32x512 : Shape := ⟨3, ![9, 32, 512]⟩
abbrev S7168x512 : Shape := ⟨2, ![7168, 512]⟩
abbrev S112x512 : Shape := ⟨2, ![112, 512]⟩
abbrev S96x512 : Shape := ⟨2, ![96, 512]⟩
abbrev S14x96x256 : Shape := ⟨3, ![14, 96, 256]⟩
abbrev S56x96x256 : Shape := ⟨3, ![56, 96, 256]⟩
abbrev S256x256 : Shape := ⟨2, ![256, 256]⟩
abbrev S96x288 : Shape := ⟨2, ![96, 288]⟩
abbrev S288x96 : Shape := ⟨2, ![288, 96]⟩
abbrev S4x14x512 : Shape := ⟨3, ![4, 14, 512]⟩
abbrev S56x512 : Shape := ⟨2, ![56, 512]⟩
abbrev S96x128 : Shape := ⟨2, ![96, 128]⟩
abbrev S96x256 : Shape := ⟨2, ![96, 256]⟩
abbrev S1x96x256 : Shape := ⟨3, ![1, 96, 256]⟩
abbrev S576x96 : Shape := ⟨2, ![576, 96]⟩
abbrev S64x96 : Shape := ⟨2, ![64, 96]⟩
abbrev S1 : Shape := ⟨1, ![1]⟩
abbrev S32x96 : Shape := ⟨2, ![32, 96]⟩
abbrev S14x512 : Shape := ⟨2, ![14, 512]⟩
abbrev S1x14x512 : Shape := ⟨3, ![1, 14, 512]⟩
abbrev S14x256 : Shape := ⟨2, ![14, 256]⟩
abbrev S28x256 : Shape := ⟨2, ![28, 256]⟩
abbrev S128x256 : Shape := ⟨2, ![128, 256]⟩
abbrev S128x1x256 : Shape := ⟨3, ![128, 1, 256]⟩
abbrev S128x2x256 : Shape := ⟨3, ![128, 2, 256]⟩
abbrev S2x256 : Shape := ⟨2, ![2, 256]⟩
abbrev S1x2x256 : Shape := ⟨3, ![1, 2, 256]⟩
abbrev S1x1x32x256 : Shape := ⟨4, ![1, 1, 32, 256]⟩
abbrev S32x256 : Shape := ⟨2, ![32, 256]⟩
abbrev S288x256 : Shape := ⟨2, ![288, 256]⟩
abbrev S9x32x256 : Shape := ⟨3, ![9, 32, 256]⟩
abbrev S56x256 : Shape := ⟨2, ![56, 256]⟩
abbrev S112x256 : Shape := ⟨2, ![112, 256]⟩

abbrev nBuf : Space → Nat
  | .hbm => 22
  | .vmem => 59
  | .smem => 1
  | _ => 0

abbrev bufTy : (tb : Table) → Fin (tcTables nBuf tb) → BufTy
  | .hbm, ⟨0, _⟩ => ⟨S96x1x3584, .bf16⟩
  | .hbm, ⟨1, _⟩ => ⟨S96, .i32⟩
  | .hbm, ⟨2, _⟩ => ⟨S1792x28672, .i8⟩
  | .hbm, ⟨3, _⟩ => ⟨S28x28672, .bf16⟩
  | .hbm, ⟨4, _⟩ => ⟨S28x28672, .i8⟩
  | .hbm, ⟨5, _⟩ => ⟨S7168x3584, .i8⟩
  | .hbm, ⟨6, _⟩ => ⟨S112x3584, .bf16⟩
  | .hbm, ⟨7, _⟩ => ⟨S112x3584, .i8⟩
  | .hbm, ⟨8, _⟩ => ⟨S9x3584x64, .bf16⟩
  | .hbm, ⟨9, _⟩ => ⟨S9x2x32x14336, .bf16⟩
  | .hbm, ⟨10, _⟩ => ⟨S9x14336x32, .bf16⟩
  | .hbm, ⟨11, _⟩ => ⟨S9x32x3584, .bf16⟩
  | .hbm, ⟨12, _⟩ => ⟨S9, .f32⟩
  | .hbm, ⟨13, _⟩ => ⟨S96x3584, .bf16⟩
  | .hbm, ⟨14, _⟩ => ⟨S1x96, .i32⟩
  | .hbm, ⟨15, _⟩ => ⟨S9x64x3584, .bf16⟩
  | .hbm, ⟨16, _⟩ => ⟨S576x3584, .bf16⟩
  | .hbm, ⟨17, _⟩ => ⟨S9x32x14336, .bf16⟩
  | .hbm, ⟨18, _⟩ => ⟨S96x3584, .bf16⟩
  | .hbm, ⟨19, _⟩ => ⟨S96x14336, .bf16⟩
  | .hbm, ⟨20, _⟩ => ⟨S96x64, .bf16⟩
  | .hbm, ⟨21, _⟩ => ⟨S96x32, .bf16⟩
  | .local _ .vmem, ⟨0, _⟩ => ⟨S96x3584, .bf16⟩
  | .local _ .vmem, ⟨1, _⟩ => ⟨S1x96, .i32⟩
  | .local _ .vmem, ⟨2, _⟩ => ⟨S1792x512, .i8⟩
  | .local _ .vmem, ⟨3, _⟩ => ⟨S1792x512, .i8⟩
  | .local _ .vmem, ⟨4, _⟩ => ⟨S1792x512, .i8⟩
  | .local _ .vmem, ⟨5, _⟩ => ⟨S1792x512, .i8⟩
  | .local _ .vmem, ⟨6, _⟩ => ⟨S1792x512, .i8⟩
  | .local _ .vmem, ⟨7, _⟩ => ⟨S1792x512, .i8⟩
  | .local _ .vmem, ⟨8, _⟩ => ⟨S1792x512, .i8⟩
  | .local _ .vmem, ⟨9, _⟩ => ⟨S1792x512, .i8⟩
  | .local _ .vmem, ⟨10, _⟩ => ⟨S28x512, .bf16⟩
  | .local _ .vmem, ⟨11, _⟩ => ⟨S28x512, .bf16⟩
  | .local _ .vmem, ⟨12, _⟩ => ⟨S28x512, .bf16⟩
  | .local _ .vmem, ⟨13, _⟩ => ⟨S28x512, .bf16⟩
  | .local _ .vmem, ⟨14, _⟩ => ⟨S28x512, .bf16⟩
  | .local _ .vmem, ⟨15, _⟩ => ⟨S28x512, .bf16⟩
  | .local _ .vmem, ⟨16, _⟩ => ⟨S28x512, .bf16⟩
  | .local _ .vmem, ⟨17, _⟩ => ⟨S28x512, .bf16⟩
  | .local _ .vmem, ⟨18, _⟩ => ⟨S28x512, .i8⟩
  | .local _ .vmem, ⟨19, _⟩ => ⟨S28x512, .i8⟩
  | .local _ .vmem, ⟨20, _⟩ => ⟨S28x512, .i8⟩
  | .local _ .vmem, ⟨21, _⟩ => ⟨S28x512, .i8⟩
  | .local _ .vmem, ⟨22, _⟩ => ⟨S28x512, .i8⟩
  | .local _ .vmem, ⟨23, _⟩ => ⟨S28x512, .i8⟩
  | .local _ .vmem, ⟨24, _⟩ => ⟨S28x512, .i8⟩
  | .local _ .vmem, ⟨25, _⟩ => ⟨S28x512, .i8⟩
  | .local _ .vmem, ⟨26, _⟩ => ⟨S9x2x32x512, .bf16⟩
  | .local _ .vmem, ⟨27, _⟩ => ⟨S9x2x32x512, .bf16⟩
  | .local _ .vmem, ⟨28, _⟩ => ⟨S9x2x32x512, .bf16⟩
  | .local _ .vmem, ⟨29, _⟩ => ⟨S9x2x32x512, .bf16⟩
  | .local _ .vmem, ⟨30, _⟩ => ⟨S9x32x512, .bf16⟩
  | .local _ .vmem, ⟨31, _⟩ => ⟨S9x32x512, .bf16⟩
  | .local _ .vmem, ⟨32, _⟩ => ⟨S9x32x512, .bf16⟩
  | .local _ .vmem, ⟨33, _⟩ => ⟨S9x32x512, .bf16⟩
  | .local _ .vmem, ⟨34, _⟩ => ⟨S576x3584, .bf16⟩
  | .local _ .vmem, ⟨35, _⟩ => ⟨S7168x512, .i8⟩
  | .local _ .vmem, ⟨36, _⟩ => ⟨S7168x512, .i8⟩
  | .local _ .vmem, ⟨37, _⟩ => ⟨S112x512, .bf16⟩
  | .local _ .vmem, ⟨38, _⟩ => ⟨S112x512, .bf16⟩
  | .local _ .vmem, ⟨39, _⟩ => ⟨S112x512, .i8⟩
  | .local _ .vmem, ⟨40, _⟩ => ⟨S112x512, .i8⟩
  | .local _ .vmem, ⟨41, _⟩ => ⟨S9x32x512, .bf16⟩
  | .local _ .vmem, ⟨42, _⟩ => ⟨S9x32x512, .bf16⟩
  | .local _ .vmem, ⟨43, _⟩ => ⟨S96x512, .bf16⟩
  | .local _ .vmem, ⟨44, _⟩ => ⟨S96x512, .bf16⟩
  | .local _ .vmem, ⟨45, _⟩ => ⟨S96x14336, .bf16⟩
  | .local _ .vmem, ⟨46, _⟩ => ⟨S96x64, .bf16⟩
  | .local _ .vmem, ⟨47, _⟩ => ⟨S96x32, .bf16⟩
  | .local _ .vmem, ⟨48, _⟩ => ⟨S14x96x256, .bf16⟩
  | .local _ .vmem, ⟨49, _⟩ => ⟨S56x96x256, .bf16⟩
  | .local _ .vmem, ⟨50, _⟩ => ⟨S256x256, .bf16⟩
  | .local _ .vmem, ⟨51, _⟩ => ⟨S96x288, .bf16⟩
  | .local _ .vmem, ⟨52, _⟩ => ⟨S96x288, .bf16⟩
  | .local _ .vmem, ⟨53, _⟩ => ⟨S96x288, .bf16⟩
  | .local _ .vmem, ⟨54, _⟩ => ⟨S288x96, .f32⟩
  | .local _ .vmem, ⟨55, _⟩ => ⟨S4x14x512, .i32⟩
  | .local _ .vmem, ⟨56, _⟩ => ⟨S4x14x512, .i32⟩
  | .local _ .vmem, ⟨57, _⟩ => ⟨S56x512, .i32⟩
  | .local _ .vmem, ⟨58, _⟩ => ⟨S56x512, .i32⟩
  | .local _ .smem, ⟨0, _⟩ => ⟨S9, .f32⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .smem, ⟨0, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg26_0 : Ref sig .tc := ⟨.vmem, 46, rfl⟩
abbrev cc0_stg27_0 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch2 : Ref sig .tc := ⟨.vmem, 50, rfl⟩
abbrev cc0_scratch3 : Ref sig .tc := ⟨.vmem, 51, rfl⟩
abbrev cc0_scratch4 : Ref sig .tc := ⟨.vmem, 52, rfl⟩
abbrev cc0_scratch5 : Ref sig .tc := ⟨.vmem, 53, rfl⟩
abbrev cc0_scratch6 : Ref sig .tc := ⟨.vmem, 54, rfl⟩
abbrev cc0_scratch7 : Ref sig .tc := ⟨.vmem, 55, rfl⟩
abbrev cc0_scratch8 : Ref sig .tc := ⟨.vmem, 56, rfl⟩
abbrev cc0_scratch9 : Ref sig .tc := ⟨.vmem, 57, rfl⟩
abbrev cc0_scratch10 : Ref sig .tc := ⟨.vmem, 58, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem26_0 : DmaSem sig := 47
abbrev cc0_sem27_0 : DmaSem sig := 48

abbrev nD : Nat := 1
abbrev τ : Topo := Topo.v7x

variable {F : FTy → Type} [BitOps F]

abbrev grid0 : Pipeline.Grid := ⟨1, ![21], ![false]⟩

def k0_cond2 (i : grid0.Coords) : BitVec 1 :=
  let arg0 : BitVec 32 := BitVec.ofNat 32 (i 0).val
  let c14_i32 : BitVec 32 := 14#32
  let v5 : BitVec 1 := Scalar.cmpi .slt arg0 c14_i32
  let v6 : BitVec 32 := Scalar.extui v5
  let c0_i32_2 : BitVec 32 := 0#32
  let v7 : BitVec 1 := Scalar.cmpi .ne v6 c0_i32_2
  v7

def k0_off1 (i : grid0.Coords) (c0_i32_339 : BitVec 32) (c0_i32_340 : BitVec 32) : Fin 2 → Nat :=
  let c0_341 : Index := 0#32
  let arg0 : BitVec 32 := BitVec.ofNat 32 (i 0).val
  let c512_i32 : BitVec 32 := 512#32
  let v900 : BitVec 32 := Scalar.muli arg0 c512_i32
  let v901 : BitVec 32 := Scalar.addi c0_i32_339 v900
  let v902 : BitVec 32 := Scalar.addi v901 c0_i32_340
  let v903 : Index := Scalar.indexCast v902
  ![0, v903.toNat]
def k0_off2 (i : grid0.Coords) (c0_i32_681 : BitVec 32) (c0_i32_682 : BitVec 32) : Fin 3 → Nat :=
  let arg0 : BitVec 32 := BitVec.ofNat 32 (i 0).val
  let c4_i32_680 : BitVec 32 := 4#32
  let v1750 : BitVec 32 := Scalar.muli arg0 c4_i32_680
  let v1751 : BitVec 32 := Scalar.addi v1750 c0_i32_681
  let v1752 : BitVec 32 := Scalar.addi v1751 c0_i32_682
  let v1753 : Index := Scalar.indexCast v1752
  let c0_683 : Index := 0#32
  let c0_684 : Index := 0#32
  ![v1753.toNat, 0, 0]
def k0_cond4 (i : grid0.Coords) : BitVec 1 :=
  let arg0 : BitVec 32 := BitVec.ofNat 32 (i 0).val
  let c14_i32_5 : BitVec 32 := 14#32
  let v11 : BitVec 1 := Scalar.cmpi .sge arg0 c14_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c14_i32_3 : BitVec 32 := 14#32
  let v8 : BitVec 1 := Scalar.cmpi .eq arg0 c14_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_15 (i : grid0.Coords) : Fin 4 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v1.toNat]

def cc0_transform_16 (i : grid0.Coords) : Fin 4 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_17 (i : grid0.Coords) : Fin 3 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_18 (i : grid0.Coords) : Fin 3 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  let c0_i32_1 : BitVec 32 := 0#32
  ![c0_i32.toNat, c0_i32_0.toNat, v1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_21 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_22 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 3 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_24 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x96 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S28x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S28x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S28x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S28x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S28x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S28x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S28x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S28x512 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S9x2x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S9x2x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S9x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S9x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S576x3584 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S7168x512 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S112x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S112x512 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S9x32x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S96x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S96x14336 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S96x64 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S96x32 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== KernelIdeal.lean ====
abbrev S96x1x3584 : Shape := ⟨3, ![96, 1, 3584]⟩
abbrev S96 : Shape := ⟨1, ![96]⟩
abbrev S1792x28672 : Shape := ⟨2, ![1792, 28672]⟩
abbrev S28x28672 : Shape := ⟨2, ![28, 28672]⟩
abbrev S7168x3584 : Shape := ⟨2, ![7168, 3584]⟩
abbrev S112x3584 : Shape := ⟨2, ![112, 3584]⟩
abbrev S9x3584x64 : Shape := ⟨3, ![9, 3584, 64]⟩
abbrev S9x2x32x14336 : Shape := ⟨4, ![9, 2, 32, 14336]⟩
abbrev S9x14336x32 : Shape := ⟨3, ![9, 14336, 32]⟩
abbrev S9x32x3584 : Shape := ⟨3, ![9, 32, 3584]⟩
abbrev S9 : Shape := ⟨1, ![9]⟩
abbrev S96x3584 : Shape := ⟨2, ![96, 3584]⟩
abbrev S1x96 : Shape := ⟨2, ![1, 96]⟩
abbrev S9x64x3584 : Shape := ⟨3, ![9, 64, 3584]⟩
abbrev S576x3584 : Shape := ⟨2, ![576, 3584]⟩
abbrev S9x32x14336 : Shape := ⟨3, ![9, 32, 14336]⟩
abbrev S96x14336 : Shape := ⟨2, ![96, 14336]⟩
abbrev S96x64 : Shape := ⟨2, ![96, 64]⟩
abbrev S96x32 : Shape := ⟨2, ![96, 32]⟩
abbrev S1792x512 : Shape := ⟨2, ![1792, 512]⟩
abbrev S28x512 : Shape := ⟨2, ![28, 512]⟩
abbrev S9x2x32x512 : Shape := ⟨4, ![9, 2, 32, 512]⟩
abbrev S9x32x512 : Shape := ⟨3, ![9, 32, 512]⟩
abbrev S7168x512 : Shape := ⟨2, ![7168, 512]⟩
abbrev S112x512 : Shape := ⟨2, ![112, 512]⟩
abbrev S96x512 : Shape := ⟨2, ![96, 512]⟩
abbrev S14x96x256 : Shape := ⟨3, ![14, 96, 256]⟩
abbrev S56x96x256 : Shape := ⟨3, ![56, 96, 256]⟩
abbrev S256x256 : Shape := ⟨2, ![256, 256]⟩
abbrev S96x288 : Shape := ⟨2, ![96, 288]⟩
abbrev S288x96 : Shape := ⟨2, ![288, 96]⟩
abbrev S4x14x512 : Shape := ⟨3, ![4, 14, 512]⟩
abbrev S4x14x2x512 : Shape := ⟨4, ![4, 14, 2, 512]⟩
abbrev S4x14x1x512 : Shape := ⟨4, ![4, 14, 1, 512]⟩
abbrev S56x512 : Shape := ⟨2, ![56, 512]⟩
abbrev S56x2x512 : Shape := ⟨3, ![56, 2, 512]⟩
abbrev S56x1x512 : Shape := ⟨3, ![56, 1, 512]⟩
abbrev S96x128 : Shape := ⟨2, ![96, 128]⟩
abbrev S96x256 : Shape := ⟨2, ![96, 256]⟩
abbrev S1x96x256 : Shape := ⟨3, ![1, 96, 256]⟩
abbrev S576x96 : Shape := ⟨2, ![576, 96]⟩
abbrev S64x96 : Shape := ⟨2, ![64, 96]⟩
abbrev S1 : Shape := ⟨1, ![1]⟩
abbrev S32x96 : Shape := ⟨2, ![32, 96]⟩
abbrev S14x512 : Shape := ⟨2, ![14, 512]⟩
abbrev S1x14x512 : Shape := ⟨3, ![1, 14, 512]⟩
abbrev S1x14x2x512 : Shape := ⟨4, ![1, 14, 2, 512]⟩
abbrev S1x14x1x512 : Shape := ⟨4, ![1, 14, 1, 512]⟩
abbrev S14x2x512 : Shape := ⟨3, ![14, 2, 512]⟩
abbrev S14x256 : Shape := ⟨2, ![14, 256]⟩
abbrev S14x2x256 : Shape := ⟨3, ![14, 2, 256]⟩
abbrev S14x1x256 : Shape := ⟨3, ![14, 1, 256]⟩
abbrev S28x256 : Shape := ⟨2, ![28, 256]⟩
abbrev S128x256 : Shape := ⟨2, ![128, 256]⟩
abbrev S128x1x256 : Shape := ⟨3, ![128, 1, 256]⟩
abbrev S128x2x256 : Shape := ⟨3, ![128, 2, 256]⟩
abbrev S2x256 : Shape := ⟨2, ![2, 256]⟩
abbrev S1x2x256 : Shape := ⟨3, ![1, 2, 256]⟩
abbrev S1x1x32x256 : Shape := ⟨4, ![1, 1, 32, 256]⟩
abbrev S32x256 : Shape := ⟨2, ![32, 256]⟩
abbrev S288x256 : Shape := ⟨2, ![288, 256]⟩
abbrev S9x32x256 : Shape := ⟨3, ![9, 32, 256]⟩
abbrev S56x256 : Shape := ⟨2, ![56, 256]⟩
abbrev S56x2x256 : Shape := ⟨3, ![56, 2, 256]⟩
abbrev S56x1x256 : Shape := ⟨3, ![56, 1, 256]⟩
abbrev S112x256 : Shape := ⟨2, ![112, 256]⟩

abbrev nBuf : Space → Nat
  | .hbm => 22
  | .vmem => 59
  | .smem => 1
  | _ => 0

abbrev bufTy : (tb : Table) → Fin (tcTables nBuf tb) → BufTy
  | .hbm, ⟨0, _⟩ => ⟨S96x1x3584, .bf16⟩
  | .hbm, ⟨1, _⟩ => ⟨S96, .i32⟩
  | .hbm, ⟨2, _⟩ => ⟨S1792x28672, .i8⟩
  | .hbm, ⟨3, _⟩ => ⟨S28x28672, .bf16⟩
  | .hbm, ⟨4, _⟩ => ⟨S28x28672, .i8⟩
  | .hbm, ⟨5, _⟩ => ⟨S7168x3584, .i8⟩
  | .hbm, ⟨6, _⟩ => ⟨S112x3584, .bf16⟩
  | .hbm, ⟨7, _⟩ => ⟨S112x3584, .i8⟩
  | .hbm, ⟨8, _⟩ => ⟨S9x3584x64, .bf16⟩
  | .hbm, ⟨9, _⟩ => ⟨S9x2x32x14336, .bf16⟩
  | .hbm, ⟨10, _⟩ => ⟨S9x14336x32, .bf16⟩
  | .hbm, ⟨11, _⟩ => ⟨S9x32x3584, .bf16⟩
  | .hbm, ⟨12, _⟩ => ⟨S9, .f32⟩
  | .hbm, ⟨13, _⟩ => ⟨S96x3584, .bf16⟩
  | .hbm, ⟨14, _⟩ => ⟨S1x96, .i32⟩
  | .hbm, ⟨15, _⟩ => ⟨S9x64x3584, .bf16⟩
  | .hbm, ⟨16, _⟩ => ⟨S576x3584, .bf16⟩
  | .hbm, ⟨17, _⟩ => ⟨S9x32x14336, .bf16⟩
  | .hbm, ⟨18, _⟩ => ⟨S96x3584, .bf16⟩
  | .hbm, ⟨19, _⟩ => ⟨S96x14336, .bf16⟩
  | .hbm, ⟨20, _⟩ => ⟨S96x64, .bf16⟩
  | .hbm, ⟨21, _⟩ => ⟨S96x32, .bf16⟩
  | .local _ .vmem, ⟨0, _⟩ => ⟨S96x3584, .bf16⟩
  | .local _ .vmem, ⟨1, _⟩ => ⟨S1x96, .i32⟩
  | .local _ .vmem, ⟨2, _⟩ => ⟨S1792x512, .i8⟩
  | .local _ .vmem, ⟨3, _⟩ => ⟨S1792x512, .i8⟩
  | .local _ .vmem, ⟨4, _⟩ => ⟨S1792x512, .i8⟩
  | .local _ .vmem, ⟨5, _⟩ => ⟨S1792x512, .i8⟩
  | .local _ .vmem, ⟨6, _⟩ => ⟨S1792x512, .i8⟩
  | .local _ .vmem, ⟨7, _⟩ => ⟨S1792x512, .i8⟩
  | .local _ .vmem, ⟨8, _⟩ => ⟨S1792x512, .i8⟩
  | .local _ .vmem, ⟨9, _⟩ => ⟨S1792x512, .i8⟩
  | .local _ .vmem, ⟨10, _⟩ => ⟨S28x512, .bf16⟩
  | .local _ .vmem, ⟨11, _⟩ => ⟨S28x512, .bf16⟩
  | .local _ .vmem, ⟨12, _⟩ => ⟨S28x512, .bf16⟩
  | .local _ .vmem, ⟨13, _⟩ => ⟨S28x512, .bf16⟩
  | .local _ .vmem, ⟨14, _⟩ => ⟨S28x512, .bf16⟩
  | .local _ .vmem, ⟨15, _⟩ => ⟨S28x512, .bf16⟩
  | .local _ .vmem, ⟨16, _⟩ => ⟨S28x512, .bf16⟩
  | .local _ .vmem, ⟨17, _⟩ => ⟨S28x512, .bf16⟩
  | .local _ .vmem, ⟨18, _⟩ => ⟨S28x512, .i8⟩
  | .local _ .vmem, ⟨19, _⟩ => ⟨S28x512, .i8⟩
  | .local _ .vmem, ⟨20, _⟩ => ⟨S28x512, .i8⟩
  | .local _ .vmem, ⟨21, _⟩ => ⟨S28x512, .i8⟩
  | .local _ .vmem, ⟨22, _⟩ => ⟨S28x512, .i8⟩
  | .local _ .vmem, ⟨23, _⟩ => ⟨S28x512, .i8⟩
  | .local _ .vmem, ⟨24, _⟩ => ⟨S28x512, .i8⟩
  | .local _ .vmem, ⟨25, _⟩ => ⟨S28x512, .i8⟩
  | .local _ .vmem, ⟨26, _⟩ => ⟨S9x2x32x512, .bf16⟩
  | .local _ .vmem, ⟨27, _⟩ => ⟨S9x2x32x512, .bf16⟩
  | .local _ .vmem, ⟨28, _⟩ => ⟨S9x2x32x512, .bf16⟩
  | .local _ .vmem, ⟨29, _⟩ => ⟨S9x2x32x512, .bf16⟩
  | .local _ .vmem, ⟨30, _⟩ => ⟨S9x32x512, .bf16⟩
  | .local _ .vmem, ⟨31, _⟩ => ⟨S9x32x512, .bf16⟩
  | .local _ .vmem, ⟨32, _⟩ => ⟨S9x32x512, .bf16⟩
  | .local _ .vmem, ⟨33, _⟩ => ⟨S9x32x512, .bf16⟩
  | .local _ .vmem, ⟨34, _⟩ => ⟨S576x3584, .bf16⟩
  | .local _ .vmem, ⟨35, _⟩ => ⟨S7168x512, .i8⟩
  | .local _ .vmem, ⟨36, _⟩ => ⟨S7168x512, .i8⟩
  | .local _ .vmem, ⟨37, _⟩ => ⟨S112x512, .bf16⟩
  | .local _ .vmem, ⟨38, _⟩ => ⟨S112x512, .bf16⟩
  | .local _ .vmem, ⟨39, _⟩ => ⟨S112x512, .i8⟩
  | .local _ .vmem, ⟨40, _⟩ => ⟨S112x512, .i8⟩
  | .local _ .vmem, ⟨41, _⟩ => ⟨S9x32x512, .bf16⟩
  | .local _ .vmem, ⟨42, _⟩ => ⟨S9x32x512, .bf16⟩
  | .local _ .vmem, ⟨43, _⟩ => ⟨S96x512, .bf16⟩
  | .local _ .vmem, ⟨44, _⟩ => ⟨S96x512, .bf16⟩
  | .local _ .vmem, ⟨45, _⟩ => ⟨S96x14336, .bf16⟩
  | .local _ .vmem, ⟨46, _⟩ => ⟨S96x64, .bf16⟩
  | .local _ .vmem, ⟨47, _⟩ => ⟨S96x32, .bf16⟩
  | .local _ .vmem, ⟨48, _⟩ => ⟨S14x96x256, .bf16⟩
  | .local _ .vmem, ⟨49, _⟩ => ⟨S56x96x256, .bf16⟩
  | .local _ .vmem, ⟨50, _⟩ => ⟨S256x256, .bf16⟩
  | .local _ .vmem, ⟨51, _⟩ => ⟨S96x288, .bf16⟩
  | .local _ .vmem, ⟨52, _⟩ => ⟨S96x288, .bf16⟩
  | .local _ .vmem, ⟨53, _⟩ => ⟨S96x288, .bf16⟩
  | .local _ .vmem, ⟨54, _⟩ => ⟨S288x96, .f32⟩
  | .local _ .vmem, ⟨55, _⟩ => ⟨S4x14x2x512, .bf16⟩
  | .local _ .vmem, ⟨56, _⟩ => ⟨S4x14x2x512, .bf16⟩
  | .local _ .vmem, ⟨57, _⟩ => ⟨S56x2x512, .bf16⟩
  | .local _ .vmem, ⟨58, _⟩ => ⟨S56x2x512, .bf16⟩
  | .local _ .smem, ⟨0, _⟩ => ⟨S9, .f32⟩
  | _, _ => ⟨S96x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .smem, ⟨0, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v5_3 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg26_0 : Ref sig .tc := ⟨.vmem, 46, rfl⟩
abbrev cc0_stg27_0 : Ref sig .tc := ⟨.vmem, 47, rfl⟩
abbrev cc0_scratch0 : Ref sig .tc := ⟨.vmem, 48, rfl⟩
abbrev cc0_scratch1 : Ref sig .tc := ⟨.vmem, 49, rfl⟩
abbrev cc0_scratch2 : Ref sig .tc := ⟨.vmem, 50, rfl⟩
abbrev cc0_scratch3 : Ref sig .tc := ⟨.vmem, 51, rfl⟩
abbrev cc0_scratch4 : Ref sig .tc := ⟨.vmem, 52, rfl⟩
abbrev cc0_scratch5 : Ref sig .tc := ⟨.vmem, 53, rfl⟩
abbrev cc0_scratch6 : Ref sig .tc := ⟨.vmem, 54, rfl⟩
abbrev cc0_scratch7 : Ref sig .tc := ⟨.vmem, 55, rfl⟩
abbrev cc0_scratch8 : Ref sig .tc := ⟨.vmem, 56, rfl⟩
abbrev cc0_scratch9 : Ref sig .tc := ⟨.vmem, 57, rfl⟩
abbrev cc0_scratch10 : Ref sig .tc := ⟨.vmem, 58, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem26_0 : DmaSem sig := 47
abbrev cc0_sem27_0 : DmaSem sig := 48

abbrev nD : Nat := 1
abbrev τ : Topo := Topo.v7x

variable {F : FTy → Type} [FloatOps F]

abbrev grid0 : Pipeline.Grid := ⟨1, ![21], ![false]⟩

def k0_cond2 (i : grid0.Coords) : BitVec 1 :=
  let arg0 : BitVec 32 := BitVec.ofNat 32 (i 0).val
  let c14_i32 : BitVec 32 := 14#32
  let v5 : BitVec 1 := Scalar.cmpi .slt arg0 c14_i32
  let v6 : BitVec 32 := Scalar.extui v5
  let c0_i32_2 : BitVec 32 := 0#32
  let v7 : BitVec 1 := Scalar.cmpi .ne v6 c0_i32_2
  v7

def k0_off1 (i : grid0.Coords) (c0_i32_339 : BitVec 32) (c0_i32_340 : BitVec 32) : Fin 2 → Nat :=
  let c0_341 : Index := 0#32
  let arg0 : BitVec 32 := BitVec.ofNat 32 (i 0).val
  let c512_i32 : BitVec 32 := 512#32
  let v900 : BitVec 32 := Scalar.muli arg0 c512_i32
  let v901 : BitVec 32 := Scalar.addi c0_i32_339 v900
  let v902 : BitVec 32 := Scalar.addi v901 c0_i32_340
  let v903 : Index := Scalar.indexCast v902
  ![0, v903.toNat]
def k0_off2 (i : grid0.Coords) (c0_i32_681 : BitVec 32) (c0_i32_682 : BitVec 32) : Fin 3 → Nat :=
  let arg0 : BitVec 32 := BitVec.ofNat 32 (i 0).val
  let c4_i32_680 : BitVec 32 := 4#32
  let v1750 : BitVec 32 := Scalar.muli arg0 c4_i32_680
  let v1751 : BitVec 32 := Scalar.addi v1750 c0_i32_681
  let v1752 : BitVec 32 := Scalar.addi v1751 c0_i32_682
  let v1753 : Index := Scalar.indexCast v1752
  let c0_683 : Index := 0#32
  let c0_684 : Index := 0#32
  ![v1753.toNat, 0, 0]
def k0_cond4 (i : grid0.Coords) : BitVec 1 :=
  let arg0 : BitVec 32 := BitVec.ofNat 32 (i 0).val
  let c14_i32_5 : BitVec 32 := 14#32
  let v11 : BitVec 1 := Scalar.cmpi .sge arg0 c14_i32_5
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c14_i32_3 : BitVec 32 := 14#32
  let v8 : BitVec 1 := Scalar.cmpi .eq arg0 c14_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_11 (i : grid0.Coords) : Fin 2 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  ![c0_i32_0.toNat, v1.toNat]

def cc0_transform_12 (i : grid0.Coords) : Fin 2 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  ![c0_i32.toNat, v1.toNat]

def cc0_transform_13 (i : grid0.Coords) : Fin 2 → Nat :=
  let arg0 : BitVec 32 := BitVec.ofNat 32 (i 0).val
  let c13_i32 : BitVec 32 := 13#32
  let v0 : BitVec 32 := Scalar.minsi arg0 c13_i32
  let c28_i32 : BitVec 32 := 28#32
  let v1 : BitVec 32 := Scalar.addi c28_i32 v0
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let c13_i32 : BitVec 32 := 13#32
  let v0 : BitVec 32 := Scalar.minsi arg0 c13_i32
  let c42_i32 : BitVec 32 := 42#32
  let v1 : BitVec 32 := Scalar.addi c42_i32 v0
  let c0_i32 : BitVec 32 := 0#32
  let c0_i32_0 : BitVec 32 := 0#32
  ![c0_i32.toNat, v1.toNat]

def cc0_transform_15 (i : grid0.Coords) : Fin 4 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v1.toNat]

def cc0_transform_16 (i : grid0.Coords) : Fin 4 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v1.toNat]

def cc0_transform_17 (i : grid0.Coords) : Fin 3 → Nat :=
  let arg0 : BitVec 32 := BitVec.ofNat 32 (i 0).val
  let c13_i32 : BitVec 32 := 13#32
  let v0 : BitVec 32 := Scalar.minsi arg0 c13_i32
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_18 (i : grid0.Coords) : Fin 3 → Nat :=
  let arg0 : BitVec 32 := BitVec.ofNat 32 (i 0).val
  let c13_i32 : BitVec 32 := 13#32
  let v0 : BitVec 32 := Scalar.minsi arg0 c13_i32
  let c14_i32 : BitVec 32 := 14#32
  let v1 : BitVec 32 := Scalar.addi c14_i32 v0
  let c0_i32 : BitVec 32 := 0#32
  let c0_i32_0 : BitVec 32 := 0#32
  let c0_i32_1 : BitVec 32 := 0#32
  ![c0_i32.toNat, c0_i32_0.toNat, v1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_21 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_22 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_23 (i : grid0.Coords) : Fin 3 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

def cc0_transform_24 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x96 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1792x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S28x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S28x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S28x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S28x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S28x512 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S28x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S28x512 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S28x512 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S9x2x32x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S9x2x32x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S9x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S9x32x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S576x3584 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S7168x512 .i8 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S112x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S112x512 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S9x32x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S96x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S96x14336 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S96x64 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S96x32 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== ReferenceIdeal.lean ====
abbrev S96x1x3584 : Shape := ⟨3, ![96, 1, 3584]⟩
abbrev S96 : Shape := ⟨1, ![96]⟩
abbrev S1792x28672 : Shape := ⟨2, ![1792, 28672]⟩
abbrev S28x28672 : Shape := ⟨2, ![28, 28672]⟩
abbrev S7168x3584 : Shape := ⟨2, ![7168, 3584]⟩
abbrev S112x3584 : Shape := ⟨2, ![112, 3584]⟩
abbrev S9x3584x64 : Shape := ⟨3, ![9, 3584, 64]⟩
abbrev S9x2x32x14336 : Shape := ⟨4, ![9, 2, 32, 14336]⟩
abbrev S9x14336x32 : Shape := ⟨3, ![9, 14336, 32]⟩
abbrev S9x32x3584 : Shape := ⟨3, ![9, 32, 3584]⟩
abbrev S9 : Shape := ⟨1, ![9]⟩
abbrev S96x3584 : Shape := ⟨2, ![96, 3584]⟩
abbrev S96x1 : Shape := ⟨2, ![96, 1]⟩
abbrev S1x9 : Shape := ⟨2, ![1, 9]⟩
abbrev S96x9 : Shape := ⟨2, ![96, 9]⟩
abbrev S_ : Shape := ⟨0, ![]⟩
abbrev S14x28672 : Shape := ⟨2, ![14, 28672]⟩
abbrev S14x128x28672 : Shape := ⟨3, ![14, 128, 28672]⟩
abbrev S14x1x28672 : Shape := ⟨3, ![14, 1, 28672]⟩
abbrev S96x1792 : Shape := ⟨2, ![96, 1792]⟩
abbrev S96x28672 : Shape := ⟨2, ![96, 28672]⟩
abbrev S96x9x64 : Shape := ⟨3, ![96, 9, 64]⟩
abbrev S96x64 : Shape := ⟨2, ![96, 64]⟩
abbrev S96x9x1x1 : Shape := ⟨4, ![96, 9, 1, 1]⟩
abbrev S96x1x2x32 : Shape := ⟨4, ![96, 1, 2, 32]⟩
abbrev S96x9x2x32 : Shape := ⟨4, ![96, 9, 2, 32]⟩
abbrev S2x14336x96 : Shape := ⟨3, ![2, 14336, 96]⟩
abbrev S96x2x14336 : Shape := ⟨3, ![96, 2, 14336]⟩
abbrev S96x1x14336 : Shape := ⟨3, ![96, 1, 14336]⟩
abbrev S96x14336 : Shape := ⟨2, ![96, 14336]⟩

abbrev nBuf : Space → Nat
  | .hbm => 96
  | .vmem => 0
  | .smem => 0
  | _ => 0

abbrev bufTy : (tb : Table) → Fin (tcTables nBuf tb) → BufTy
  | .hbm, ⟨0, _⟩ => ⟨S96x1x3584, .bf16⟩
  | .hbm, ⟨1, _⟩ => ⟨S96, .i32⟩
  | .hbm, ⟨2, _⟩ => ⟨S1792x28672, .i8⟩
  | .hbm, ⟨3, _⟩ => ⟨S28x28672, .bf16⟩
  | .hbm, ⟨4, _⟩ => ⟨S28x28672, .i8⟩
  | .hbm, ⟨5, _⟩ => ⟨S7168x3584, .i8⟩
  | .hbm, ⟨6, _⟩ => ⟨S112x3584, .bf16⟩
  | .hbm, ⟨7, _⟩ => ⟨S112x3584, .i8⟩
  | .hbm, ⟨8, _⟩ => ⟨S9x3584x64, .bf16⟩
  | .hbm, ⟨9, _⟩ => ⟨S9x2x32x14336, .bf16⟩
  | .hbm, ⟨10, _⟩ => ⟨S9x14336x32, .bf16⟩
  | .hbm, ⟨11, _⟩ => ⟨S9x32x3584, .bf16⟩
  | .hbm, ⟨12, _⟩ => ⟨S9, .f32⟩
  | .hbm, ⟨13, _⟩ => ⟨S96x3584, .bf16⟩
  | .hbm, ⟨14, _⟩ => ⟨S96x1, .i32⟩
  | .hbm, ⟨15, _⟩ => ⟨S1x9, .i32⟩
  | .hbm, ⟨16, _⟩ => ⟨S96x9, .i32⟩
  | .hbm, ⟨17, _⟩ => ⟨S96x9, .i32⟩
  | .hbm, ⟨18, _⟩ => ⟨S96x9, .i1⟩
  | .hbm, ⟨19, _⟩ => ⟨S96x9, .f32⟩
  | .hbm, ⟨20, _⟩ => ⟨S96x9, .bf16⟩
  | .hbm, ⟨21, _⟩ => ⟨S_, .i32⟩
  | .hbm, ⟨22, _⟩ => ⟨S96, .i32⟩
  | .hbm, ⟨23, _⟩ => ⟨S96, .i1⟩
  | .hbm, ⟨24, _⟩ => ⟨S_, .i32⟩
  | .hbm, ⟨25, _⟩ => ⟨S96, .i32⟩
  | .hbm, ⟨26, _⟩ => ⟨S96, .i32⟩
  | .hbm, ⟨27, _⟩ => ⟨S96, .i32⟩
  | .hbm, ⟨28, _⟩ => ⟨S96x1, .i32⟩
  | .hbm, ⟨29, _⟩ => ⟨S96, .f32⟩
  | .hbm, ⟨30, _⟩ => ⟨S1792x28672, .i32⟩
  | .hbm, ⟨31, _⟩ => ⟨S_, .i32⟩
  | .hbm, ⟨32, _⟩ => ⟨S1792x28672, .i32⟩
  | .hbm, ⟨33, _⟩ => ⟨S1792x28672, .i32⟩
  | .hbm, ⟨34, _⟩ => ⟨S1792x28672, .bf16⟩
  | .hbm, ⟨35, _⟩ => ⟨S_, .i32⟩
  | .hbm, ⟨36, _⟩ => ⟨S1792x28672, .i32⟩
  | .hbm, ⟨37, _⟩ => ⟨S1792x28672, .i32⟩
  | .hbm, ⟨38, _⟩ => ⟨S1792x28672, .bf16⟩
  | .hbm, ⟨39, _⟩ => ⟨S28x28672, .i32⟩
  | .hbm, ⟨40, _⟩ => ⟨S28x28672, .bf16⟩
  | .hbm, ⟨41, _⟩ => ⟨S14x28672, .bf16⟩
  | .hbm, ⟨42, _⟩ => ⟨S14x28672, .bf16⟩
  | .hbm, ⟨43, _⟩ => ⟨S14x128x28672, .bf16⟩
  | .hbm, ⟨44, _⟩ => ⟨S14x1x28672, .bf16⟩
  | .hbm, ⟨45, _⟩ => ⟨S14x128x28672, .bf16⟩
  | .hbm, ⟨46, _⟩ => ⟨S14x128x28672, .bf16⟩
  | .hbm, ⟨47, _⟩ => ⟨S14x1x28672, .bf16⟩
  | .hbm, ⟨48, _⟩ => ⟨S14x128x28672, .bf16⟩
  | .hbm, ⟨49, _⟩ => ⟨S14x128x28672, .bf16⟩
  | .hbm, ⟨50, _⟩ => ⟨S1792x28672, .bf16⟩
  | .hbm, ⟨51, _⟩ => ⟨S14x28672, .bf16⟩
  | .hbm, ⟨52, _⟩ => ⟨S14x28672, .bf16⟩
  | .hbm, ⟨53, _⟩ => ⟨S14x128x28672, .bf16⟩
  | .hbm, ⟨54, _⟩ => ⟨S14x1x28672, .bf16⟩
  | .hbm, ⟨55, _⟩ => ⟨S14x128x28672, .bf16⟩
  | .hbm, ⟨56, _⟩ => ⟨S14x128x28672, .bf16⟩
  | .hbm, ⟨57, _⟩ => ⟨S14x1x28672, .bf16⟩
  | .hbm, ⟨58, _⟩ => ⟨S14x128x28672, .bf16⟩
  | .hbm, ⟨59, _⟩ => ⟨S14x128x28672, .bf16⟩
  | .hbm, ⟨60, _⟩ => ⟨S1792x28672, .bf16⟩
  | .hbm, ⟨61, _⟩ => ⟨S96x1792, .bf16⟩
  | .hbm, ⟨62, _⟩ => ⟨S96x28672, .f32⟩
  | .hbm, ⟨63, _⟩ => ⟨S96x1792, .bf16⟩
  | .hbm, ⟨64, _⟩ => ⟨S96x28672, .f32⟩
  | .hbm, ⟨65, _⟩ => ⟨S96x28672, .f32⟩
  | .hbm, ⟨66, _⟩ => ⟨S96x9x64, .f32⟩
  | .hbm, ⟨67, _⟩ => ⟨S96x64, .f32⟩
  | .hbm, ⟨68, _⟩ => ⟨S96x1, .f32⟩
  | .hbm, ⟨69, _⟩ => ⟨S96x64, .f32⟩
  | .hbm, ⟨70, _⟩ => ⟨S96x64, .f32⟩
  | .hbm, ⟨71, _⟩ => ⟨S96x64, .bf16⟩
  | .hbm, ⟨72, _⟩ => ⟨S96x9x1x1, .bf16⟩
  | .hbm, ⟨73, _⟩ => ⟨S96x1x2x32, .bf16⟩
  | .hbm, ⟨74, _⟩ => ⟨S96x9x2x32, .bf16⟩
  | .hbm, ⟨75, _⟩ => ⟨S96x9x2x32, .bf16⟩
  | .hbm, ⟨76, _⟩ => ⟨S96x9x2x32, .bf16⟩
  | .hbm, ⟨77, _⟩ => ⟨S2x14336x96, .f32⟩
  | .hbm, ⟨78, _⟩ => ⟨S96x2x14336, .f32⟩
  | .hbm, ⟨79, _⟩ => ⟨S96x2x14336, .f32⟩
  | .hbm, ⟨80, _⟩ => ⟨S96x2x14336, .f32⟩
  | .hbm, ⟨81, _⟩ => ⟨S96x1x14336, .f32⟩
  | .hbm, ⟨82, _⟩ => ⟨S96x14336, .f32⟩
  | .hbm, ⟨83, _⟩ => ⟨S96x1x14336, .f32⟩
  | .hbm, ⟨84, _⟩ => ⟨S96x14336, .f32⟩
  | .hbm, ⟨85, _⟩ => ⟨S96x14336, .f32⟩
  | .hbm, ⟨86, _⟩ => ⟨S96x14336, .f32⟩
  | .hbm, ⟨87, _⟩ => ⟨S_, .f32⟩
  | .hbm, ⟨88, _⟩ => ⟨S96x14336, .f32⟩
  | .hbm, ⟨89, _⟩ => ⟨S96x14336, .f32⟩
  | .hbm, ⟨90, _⟩ => ⟨S_, .f32⟩
  | .hbm, ⟨91, _⟩ => ⟨S96x14336, .f32⟩
  | .hbm, ⟨92, _⟩ => ⟨S96x14336, .f32⟩
  | .hbm, ⟨93, _⟩ => ⟨S96x14336, .f32⟩
  | .hbm, ⟨94, _⟩ => ⟨S96x14336, .f32⟩
  | .hbm, ⟨95, _⟩ => ⟨S96x14336, .bf16⟩
  | _, _ => ⟨S96x1x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst : Ref sig .tc := ⟨.hbm, 87, rfl⟩
abbrev main_v65 : Ref sig .tc := ⟨.hbm, 88, rfl⟩
abbrev main_v66 : Ref sig .tc := ⟨.hbm, 89, rfl⟩
abbrev main_cst_3 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]
-- ==== Proof.BitsKit.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! What the runs and the frame of the kernel share: the entry to the region, the blocks the windows hold, the branch conditions in
closed form over the points, and the staging and scratch memrefs. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 6 rfl).trans ((hA c 6).trans (V_main_arg2 m c)),
      (Pipeline.RDat.FramePost.arr_in h c 10 rfl).trans ((hA c 10).trans (V_main_arg3 m c)),
      (Pipeline.RDat.FramePost.arr_in h c 14 rfl).trans ((hA c 14).trans (V_main_arg4 m c)),
      (Pipeline.RDat.FramePost.arr_in h c 20 rfl).trans ((hA c 20).trans (V_main_arg5 m c)),
      (Pipeline.RDat.FramePost.arr_in h c 21 rfl).trans ((hA c 21).trans (V_main_arg6 m c)),
      (Pipeline.RDat.FramePost.arr_in h c 22 rfl).trans ((hA c 22).trans (V_main_arg7 m c)),
      ((h c).2 main_arg8 (Pipeline.mem_restRefs_of main_arg8 (by decide) (by decide))).trans (V_main_arg8 m c),
      (Pipeline.RDat.FramePost.arr_in h c 16 rfl).trans ((hA c 16).trans (V_main_arg9 m c)),
      ((h c).2 main_arg10 (Pipeline.mem_restRefs_of main_arg10 (by decide) (by decide))).trans (V_main_arg10 m c),
      (Pipeline.RDat.FramePost.arr_in h c 23 rfl).trans ((hA c 23).trans (V_main_arg11 m c)),
      (Pipeline.RDat.FramePost.arr_in h c 2 rfl).trans ((hA c 2).trans (V_main_arg12 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, k0_cond1, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points before point 14 — decided over the grid. -/
theorem hcond0_1 : ∀ t : Fin cfg0.N, cond0_1 (grid0.coords t) ↔ t.val < 14 :=
  (by decide +kernel : ∀ t : Fin grid0.N, cond0_1 (grid0.coords t) ↔ t.val < 14)

/-- The condition of the body's `scf.if` 2 (`k0_h3`), from the grid coordinates (the skeleton's scalar
    chain substituted). -/
abbrev cond0_2 (i : grid0.Coords) : Prop := k0_cond3 i = 1#1
/-- It holds at point 14 only — by arithmetic of the point. -/
theorem hcond0_2 : ∀ t : Fin cfg0.N, cond0_2 (grid0.coords t) ↔ t.val % 21 = 14 :=
  (fun t => by
    have ht : t.val < 21 := Nat.lt_of_lt_of_eq t.isLt N_0
    have e0 : (grid0.coords t 0).val = t.val / 1 % 21 := Pipeline.Grid.coords_val t 0 (by decide) rfl
    simp only [cond0_2, k0_cond3, e0]
    word_cmp
   : ∀ t : Fin grid0.N, cond0_2 (grid0.coords t) ↔ t.val % 21 = 14)

/-- The condition of the body's `scf.if` 3 (`k0_h4`), from the grid coordinates (the skeleton's scalar
    chain substituted). -/
abbrev cond0_3 (i : grid0.Coords) : Prop := k0_cond4 i = 1#1
/-- It holds at the points from point 14 on — decided over the grid. -/
theorem hcond0_3 : ∀ t : Fin cfg0.N, cond0_3 (grid0.coords t) ↔ 14 ≤ t.val :=
  (by decide +kernel : ∀ t : Fin grid0.N, cond0_3 (grid0.coords t) ↔ 14 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 20 is never idle (an input). -/
theorem liveAt0_20 : ∀ t : Fin cfg0.N, cfg0.idle 20 (grid0.coords t) = false := fun _ => rfl
/-- Window 21 is never idle (an input). -/
theorem liveAt0_21 : ∀ t : Fin cfg0.N, cfg0.idle 21 (grid0.coords t) = false := fun _ => rfl
/-- Window 22 is never idle (an input). -/
theorem liveAt0_22 : ∀ t : Fin cfg0.N, cfg0.idle 22 (grid0.coords t) = false := fun _ => rfl
/-- Window 23 is never idle (an input). -/
theorem liveAt0_23 : ∀ t : Fin cfg0.N, cfg0.idle 23 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x96 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S9 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S28x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S28x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S28x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S28x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S28x512 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S28x512 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S28x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S28x512 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S9x2x32x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S9x2x32x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S9x32x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S9x32x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S576x3584 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S7168x512 .i8 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S112x512 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S112x512 .i8 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S9x32x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S96x512 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S96x14336 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S96x64 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S96x32 .bf16 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S14x96x256 .bf16 := Memref.whole cc0_scratch0
abbrev scM0_1 : Memref sig .tc .vmem S56x96x256 .bf16 := Memref.whole cc0_scratch1
abbrev scM0_2 : Memref sig .tc .vmem S256x256 .bf16 := Memref.whole cc0_scratch2
abbrev scM0_3 : Memref sig .tc .vmem S96x288 .bf16 := Memref.whole cc0_scratch3
abbrev scM0_4 : Memref sig .tc .vmem S96x288 .bf16 := Memref.whole cc0_scratch4
abbrev scM0_5 : Memref sig .tc .vmem S96x288 .bf16 := Memref.whole cc0_scratch5
abbrev scM0_6 : Memref sig .tc .vmem S288x96 .f32 := Memref.whole cc0_scratch6
abbrev scM0_7 : Memref sig .tc .vmem S4x14x512 .i32 := Memref.whole cc0_scratch7
abbrev scM0_8 : Memref sig .tc .vmem S4x14x512 .i32 := Memref.whole cc0_scratch8
abbrev scM0_9 : Memref sig .tc .vmem S56x512 .i32 := Memref.whole cc0_scratch9
abbrev scM0_10 : Memref sig .tc .vmem S56x512 .i32 := Memref.whole cc0_scratch10
/-- The scratch `arg29` the kernel carries between points, as a view: what it holds is stated through it. -/
abbrev VS0_0 : View sig .tc .vmem S14x96x256 .bf16 := scM0_0.view
/-- The scratch `arg31` the kernel carries between points, as a view: what it holds is stated through it. -/
abbrev VS0_2 : View sig .tc .vmem S256x256 .bf16 := scM0_2.view
/-- The scratch `arg32` the kernel carries between points, as a view: what it holds is stated through it. -/
abbrev VS0_3 : View sig .tc .vmem S96x288 .bf16 := scM0_3.view
/-- The scratch `arg33` the kernel carries between points, as a view: what it holds is stated through it. -/
abbrev VS0_4 : View sig .tc .vmem S96x288 .bf16 := scM0_4.view
/-- The scratch `arg35` the kernel carries between points, as a view: what it holds is stated through it. -/
abbrev VS0_6 : View sig .tc .vmem S288x96 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel.Gen

end
-- ==== Proof.BitsRun.RunB.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! The run of the kernel's body at points one to thirteen: the gate and up half. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 9000000 in
set_option sl_exec.squeezeSlice true in
/-- The body runs at points one to thirteen: the gate and up half: the buffers it does not touch keep their contents. -/
theorem runB (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x512 .i32) (harg36 : arg36.IsWhole) (arg37 : Memref sig .tc .vmem S4x14x512 .i32) (harg37 : arg37.IsWhole) (arg38 : Memref sig .tc .vmem S56x512 .i32) (harg38 : arg38.IsWhole) (arg39 : Memref sig .tc .vmem S56x512 .i32) (harg39 : arg39.IsWhole)
    (hc0 : ¬ k0_cond1 i = 1#1) (hc1 : k0_cond2 i = 1#1) (hc2 : ¬ k0_cond3 i = 1#1) (hc3 : ¬ k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (∃ f, (View.loc (c : Thread nD τ) arg26.view ↦[arg26.view.set]{fullShare} f)) ∗ (∃ f, (View.loc (c : Thread nD τ) arg27.view ↦[arg27.view.set]{fullShare} f)) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.Kernel.Gen

end
-- ==== Proof.BitsRun.RunA.lean ====
module

public import proofs.«01_k».proof.Proof.BitsRun.RunB

/-! The run of the kernel's body at the first point: the prologue, then the gate and up half. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 9000000 in
set_option sl_exec.squeezeSlice true in
/-- The body runs at the first point: the prologue, then the gate and up half: the buffers it does not touch keep their contents. -/
theorem runA (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x512 .i32) (harg36 : arg36.IsWhole) (arg37 : Memref sig .tc .vmem S4x14x512 .i32) (harg37 : arg37.IsWhole) (arg38 : Memref sig .tc .vmem S56x512 .i32) (harg38 : arg38.IsWhole) (arg39 : Memref sig .tc .vmem S56x512 .i32) (harg39 : arg39.IsWhole)
    (hc0 : k0_cond1 i = 1#1) (hc1 : k0_cond2 i = 1#1) (hc2 : ¬ k0_cond3 i = 1#1) (hc3 : ¬ k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (∃ f, (View.loc (c : Thread nD τ) arg26.view ↦[arg26.view.set]{fullShare} f)) ∗ (∃ f, (View.loc (c : Thread nD τ) arg27.view ↦[arg27.view.set]{fullShare} f)) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.Kernel.Gen

end
-- ==== Proof.BitsRun.RunD.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

/-! The run of the kernel's body from point fifteen on: the down half. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 9000000 in
/-- The body runs from point fifteen on: the down half: the buffers it does not touch keep their contents. -/
theorem runD (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x512 .i32) (harg36 : arg36.IsWhole) (arg37 : Memref sig .tc .vmem S4x14x512 .i32) (harg37 : arg37.IsWhole) (arg38 : Memref sig .tc .vmem S56x512 .i32) (harg38 : arg38.IsWhole) (arg39 : Memref sig .tc .vmem S56x512 .i32) (harg39 : arg39.IsWhole)
    (hc0 : ¬ k0_cond1 i = 1#1) (hc1 : ¬ k0_cond2 i = 1#1) (hc2 : ¬ k0_cond3 i = 1#1) (hc3 : k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (∃ f, (View.loc (c : Thread nD τ) arg26.view ↦[arg26.view.set]{fullShare} f)) ∗ (∃ f, (View.loc (c : Thread nD τ) arg27.view ↦[arg27.view.set]{fullShare} f)) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.Kernel.Gen

end
-- ==== Proof.BitsRun.RunC.lean ====
module

public import proofs.«01_k».proof.Proof.BitsRun.RunD

/-! The run of the kernel's body at point fourteen: the middle stage, then the down half. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 9000000 in
/-- The body runs at point fourteen: the middle stage, then the down half: the buffers it does not touch keep their contents. -/
theorem runC (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x512 .i32) (harg36 : arg36.IsWhole) (arg37 : Memref sig .tc .vmem S4x14x512 .i32) (harg37 : arg37.IsWhole) (arg38 : Memref sig .tc .vmem S56x512 .i32) (harg38 : arg38.IsWhole) (arg39 : Memref sig .tc .vmem S56x512 .i32) (harg39 : arg39.IsWhole)
    (hc0 : ¬ k0_cond1 i = 1#1) (hc1 : ¬ k0_cond2 i = 1#1) (hc2 : k0_cond3 i = 1#1) (hc3 : k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (∃ f, (View.loc (c : Thread nD τ) arg26.view ↦[arg26.view.set]{fullShare} f)) ∗ (∃ f, (View.loc (c : Thread nD τ) arg27.view ↦[arg27.view.set]{fullShare} f)) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.Kernel.Gen

end
-- ==== Proof.BitsFrame.lean ====
module

public import proofs.«01_k».proof.Proof.BitsKit
public import proofs.«01_k».proof.Proof.BitsRun.RunA
public import proofs.«01_k».proof.Proof.BitsRun.RunC
public import Idealize.ShloMosaic.Lib.Claim

/-! The frame of the kernel: every input array ends unchanged and every semaphore counter ends at zero. Nothing is said
of what the kernel leaves in its outputs and scratch buffers. -/

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The outputs, of which nothing is said. -/
def forgets0 : Fin 28 → Bool := fun w => w.val == 24 || w.val == 25 || w.val == 26 || w.val == 27

/-- The proof data of the pipeline: the arrays as the region finds them, each input's buffer left at its block, nothing
    said of the outputs, the scratch buffers at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | w => Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

set_option maxHeartbeats 2000000 in
/-- The body runs at every point, whichever of its four stages the point selects: the inputs' buffers are kept, every
    other buffer ends at some contents. -/
theorem run_any (c : Dev nD) (t : Fin cfg0.N) :
    ∀ (f1 : (ms0_0 t).view.ty.Contents (Elt F)) (f2 : (ms0_1 t).view.ty.Contents (Elt F)) (f3 : (ms0_2 t).view.ty.Contents (Elt F)) (f4 : (ms0_3 t).view.ty.Contents (Elt F)) (f5 : (ms0_4 t).view.ty.Contents (Elt F)) (f6 : (ms0_5 t).view.ty.Contents (Elt F)) (f7 : (ms0_6 t).view.ty.Contents (Elt F)) (f8 : (ms0_7 t).view.ty.Contents (Elt F)) (f9 : (ms0_8 t).view.ty.Contents (Elt F)) (f10 : (ms0_9 t).view.ty.Contents (Elt F)) (f11 : (ms0_10 t).view.ty.Contents (Elt F)) (f12 : (ms0_11 t).view.ty.Contents (Elt F)) (f13 : (ms0_12 t).view.ty.Contents (Elt F)) (f14 : (ms0_13 t).view.ty.Contents (Elt F)) (f15 : (ms0_14 t).view.ty.Contents (Elt F)) (f16 : (ms0_15 t).view.ty.Contents (Elt F)) (f17 : (ms0_16 t).view.ty.Contents (Elt F)) (f18 : (ms0_17 t).view.ty.Contents (Elt F)) (f19 : (ms0_18 t).view.ty.Contents (Elt F)) (f20 : (ms0_19 t).view.ty.Contents (Elt F)) (f21 : (ms0_20 t).view.ty.Contents (Elt F)) (f22 : (ms0_21 t).view.ty.Contents (Elt F)) (f23 : (ms0_22 t).view.ty.Contents (Elt F)) (f24 : (ms0_23 t).view.ty.Contents (Elt F)) (f25 : (ms0_24 t).view.ty.Contents (Elt F)) (f26 : (ms0_25 t).view.ty.Contents (Elt F)) (f27 : (ms0_26 t).view.ty.Contents (Elt F)) (f28 : (ms0_27 t).view.ty.Contents (Elt F)) (f29 : (scM0_0).view.ty.Contents (Elt F)) (f30 : (scM0_1).view.ty.Contents (Elt F)) (f31 : (scM0_2).view.ty.Contents (Elt F)) (f32 : (scM0_3).view.ty.Contents (Elt F)) (f33 : (scM0_4).view.ty.Contents (Elt F)) (f34 : (scM0_5).view.ty.Contents (Elt F)) (f35 : (scM0_6).view.ty.Contents (Elt F)) (f36 : (scM0_7).view.ty.Contents (Elt F)) (f37 : (scM0_8).view.ty.Contents (Elt F)) (f38 : (scM0_9).view.ty.Contents (Elt F)) (f39 : (scM0_10).view.ty.Contents (Elt F)) (E : Set ℕ) (K : PUnit → sProp 𝕄),
      iprop((View.loc (c : Thread nD τ) (ms0_0 t).view ↦[(ms0_0 t).view.set]{fullShare} f1) ∗ (View.loc (c : Thread nD τ) (ms0_1 t).view ↦[(ms0_1 t).view.set]{fullShare} f2) ∗ (View.loc (c : Thread nD τ) (ms0_2 t).view ↦[(ms0_2 t).view.set]{fullShare} f3) ∗ (View.loc (c : Thread nD τ) (ms0_3 t).view ↦[(ms0_3 t).view.set]{fullShare} f4) ∗ (View.loc (c : Thread nD τ) (ms0_4 t).view ↦[(ms0_4 t).view.set]{fullShare} f5) ∗ (View.loc (c : Thread nD τ) (ms0_5 t).view ↦[(ms0_5 t).view.set]{fullShare} f6) ∗ (View.loc (c : Thread nD τ) (ms0_6 t).view ↦[(ms0_6 t).view.set]{fullShare} f7) ∗ (View.loc (c : Thread nD τ) (ms0_7 t).view ↦[(ms0_7 t).view.set]{fullShare} f8) ∗ (View.loc (c : Thread nD τ) (ms0_8 t).view ↦[(ms0_8 t).view.set]{fullShare} f9) ∗ (View.loc (c : Thread nD τ) (ms0_9 t).view ↦[(ms0_9 t).view.set]{fullShare} f10) ∗ (View.loc (c : Thread nD τ) (ms0_10 t).view ↦[(ms0_10 t).view.set]{fullShare} f11) ∗ (View.loc (c : Thread nD τ) (ms0_11 t).view ↦[(ms0_11 t).view.set]{fullShare} f12) ∗ (View.loc (c : Thread nD τ) (ms0_12 t).view ↦[(ms0_12 t).view.set]{fullShare} f13) ∗ (View.loc (c : Thread nD τ) (ms0_13 t).view ↦[(ms0_13 t).view.set]{fullShare} f14) ∗ (View.loc (c : Thread nD τ) (ms0_14 t).view ↦[(ms0_14 t).view.set]{fullShare} f15) ∗ (View.loc (c : Thread nD τ) (ms0_15 t).view ↦[(ms0_15 t).view.set]{fullShare} f16) ∗ (View.loc (c : Thread nD τ) (ms0_16 t).view ↦[(ms0_16 t).view.set]{fullShare} f17) ∗ (View.loc (c : Thread nD τ) (ms0_17 t).view ↦[(ms0_17 t).view.set]{fullShare} f18) ∗ (View.loc (c : Thread nD τ) (ms0_18 t).view ↦[(ms0_18 t).view.set]{fullShare} f19) ∗ (View.loc (c : Thread nD τ) (ms0_19 t).view ↦[(ms0_19 t).view.set]{fullShare} f20) ∗ (View.loc (c : Thread nD τ) (ms0_20 t).view ↦[(ms0_20 t).view.set]{fullShare} f21) ∗ (View.loc (c : Thread nD τ) (ms0_21 t).view ↦[(ms0_21 t).view.set]{fullShare} f22) ∗ (View.loc (c : Thread nD τ) (ms0_22 t).view ↦[(ms0_22 t).view.set]{fullShare} f23) ∗ (View.loc (c : Thread nD τ) (ms0_23 t).view ↦[(ms0_23 t).view.set]{fullShare} f24) ∗ (View.loc (c : Thread nD τ) (ms0_24 t).view ↦[(ms0_24 t).view.set]{fullShare} f25) ∗ (View.loc (c : Thread nD τ) (ms0_25 t).view ↦[(ms0_25 t).view.set]{fullShare} f26) ∗ (View.loc (c : Thread nD τ) (ms0_26 t).view ↦[(ms0_26 t).view.set]{fullShare} f27) ∗ (View.loc (c : Thread nD τ) (ms0_27 t).view ↦[(ms0_27 t).view.set]{fullShare} f28) ∗ (View.loc (c : Thread nD τ) (scM0_0).view ↦[(scM0_0).view.set]{fullShare} f29) ∗ (View.loc (c : Thread nD τ) (scM0_1).view ↦[(scM0_1).view.set]{fullShare} f30) ∗ (View.loc (c : Thread nD τ) (scM0_2).view ↦[(scM0_2).view.set]{fullShare} f31) ∗ (View.loc (c : Thread nD τ) (scM0_3).view ↦[(scM0_3).view.set]{fullShare} f32) ∗ (View.loc (c : Thread nD τ) (scM0_4).view ↦[(scM0_4).view.set]{fullShare} f33) ∗ (View.loc (c : Thread nD τ) (scM0_5).view ↦[(scM0_5).view.set]{fullShare} f34) ∗ (View.loc (c : Thread nD τ) (scM0_6).view ↦[(scM0_6).view.set]{fullShare} f35) ∗ (View.loc (c : Thread nD τ) (scM0_7).view ↦[(scM0_7).view.set]{fullShare} f36) ∗ (View.loc (c : Thread nD τ) (scM0_8).view ↦[(scM0_8).view.set]{fullShare} f37) ∗ (View.loc (c : Thread nD τ) (scM0_9).view ↦[(scM0_9).view.set]{fullShare} f38) ∗ (View.loc (c : Thread nD τ) (scM0_10).view ↦[(scM0_10).view.set]{fullShare} f39) ∗ (iprop((View.loc (c : Thread nD τ) (ms0_0 t).view ↦[(ms0_0 t).view.set]{fullShare} f1) ∗ (View.loc (c : Thread nD τ) (ms0_1 t).view ↦[(ms0_1 t).view.set]{fullShare} f2) ∗ (View.loc (c : Thread nD τ) (ms0_2 t).view ↦[(ms0_2 t).view.set]{fullShare} f3) ∗ (View.loc (c : Thread nD τ) (ms0_3 t).view ↦[(ms0_3 t).view.set]{fullShare} f4) ∗ (View.loc (c : Thread nD τ) (ms0_4 t).view ↦[(ms0_4 t).view.set]{fullShare} f5) ∗ (View.loc (c : Thread nD τ) (ms0_5 t).view ↦[(ms0_5 t).view.set]{fullShare} f6) ∗ (View.loc (c : Thread nD τ) (ms0_6 t).view ↦[(ms0_6 t).view.set]{fullShare} f7) ∗ (View.loc (c : Thread nD τ) (ms0_7 t).view ↦[(ms0_7 t).view.set]{fullShare} f8) ∗ (View.loc (c : Thread nD τ) (ms0_8 t).view ↦[(ms0_8 t).view.set]{fullShare} f9) ∗ (View.loc (c : Thread nD τ) (ms0_9 t).view ↦[(ms0_9 t).view.set]{fullShare} f10) ∗ (View.loc (c : Thread nD τ) (ms0_10 t).view ↦[(ms0_10 t).view.set]{fullShare} f11) ∗ (View.loc (c : Thread nD τ) (ms0_11 t).view ↦[(ms0_11 t).view.set]{fullShare} f12) ∗ (View.loc (c : Thread nD τ) (ms0_12 t).view ↦[(ms0_12 t).view.set]{fullShare} f13) ∗ (View.loc (c : Thread nD τ) (ms0_13 t).view ↦[(ms0_13 t).view.set]{fullShare} f14) ∗ (View.loc (c : Thread nD τ) (ms0_14 t).view ↦[(ms0_14 t).view.set]{fullShare} f15) ∗ (View.loc (c : Thread nD τ) (ms0_15 t).view ↦[(ms0_15 t).view.set]{fullShare} f16) ∗ (View.loc (c : Thread nD τ) (ms0_16 t).view ↦[(ms0_16 t).view.set]{fullShare} f17) ∗ (View.loc (c : Thread nD τ) (ms0_17 t).view ↦[(ms0_17 t).view.set]{fullShare} f18) ∗ (View.loc (c : Thread nD τ) (ms0_18 t).view ↦[(ms0_18 t).view.set]{fullShare} f19) ∗ (View.loc (c : Thread nD τ) (ms0_19 t).view ↦[(ms0_19 t).view.set]{fullShare} f20) ∗ (View.loc (c : Thread nD τ) (ms0_20 t).view ↦[(ms0_20 t).view.set]{fullShare} f21) ∗ (View.loc (c : Thread nD τ) (ms0_21 t).view ↦[(ms0_21 t).view.set]{fullShare} f22) ∗ (View.loc (c : Thread nD τ) (ms0_22 t).view ↦[(ms0_22 t).view.set]{fullShare} f23) ∗ (View.loc (c : Thread nD τ) (ms0_23 t).view ↦[(ms0_23 t).view.set]{fullShare} f24) ∗ (∃ f, (View.loc (c : Thread nD τ) (ms0_24 t).view ↦[(ms0_24 t).view.set]{fullShare} f)) ∗ (∃ f, (View.loc (c : Thread nD τ) (ms0_25 t).view ↦[(ms0_25 t).view.set]{fullShare} f)) ∗ (∃ f, (View.loc (c : Thread nD τ) (ms0_26 t).view ↦[(ms0_26 t).view.set]{fullShare} f)) ∗ (∃ f, (View.loc (c : Thread nD τ) (ms0_27 t).view ↦[(ms0_27 t).view.set]{fullShare} f)) ∗ (∃ f, (View.loc (c : Thread nD τ) (scM0_0).view ↦[(scM0_0).view.set]{fullShare} f)) ∗ (∃ f, (View.loc (c : Thread nD τ) (scM0_1).view ↦[(scM0_1).view.set]{fullShare} f)) ∗ (∃ f, (View.loc (c : Thread nD τ) (scM0_2).view ↦[(scM0_2).view.set]{fullShare} f)) ∗ (∃ f, (View.loc (c : Thread nD τ) (scM0_3).view ↦[(scM0_3).view.set]{fullShare} f)) ∗ (∃ f, (View.loc (c : Thread nD τ) (scM0_4).view ↦[(scM0_4).view.set]{fullShare} f)) ∗ (∃ f, (View.loc (c : Thread nD τ) (scM0_5).view ↦[(scM0_5).view.set]{fullShare} f)) ∗ (∃ f, (View.loc (c : Thread nD τ) (scM0_6).view ↦[(scM0_6).view.set]{fullShare} f)) ∗ (∃ f, (View.loc (c : Thread nD τ) (scM0_7).view ↦[(scM0_7).view.set]{fullShare} f)) ∗ (∃ f, (View.loc (c : Thread nD τ) (scM0_8).view ↦[(scM0_8).view.set]{fullShare} f)) ∗ (∃ f, (View.loc (c : Thread nD τ) (scM0_9).view ↦[(scM0_9).view.set]{fullShare} f)) ∗ (∃ f, (View.loc (c : Thread nD τ) (scM0_10).view ↦[(scM0_10).view.set]{fullShare} f))) -∗ K ⟨⟩))
        ⊢ wp frame (wpE (defs₀ (F := F)) Variants.none c none) E (bodyAt0 t) K := by
  have hN : t.val < 21 := lt_of_lt_of_eq t.isLt (show cfg0.N = 21 from N_0)
  by_cases h0 : t.val = 0
  · exact runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) ((hcond0_1 t).mpr (by omega))
      (fun h => absurd ((hcond0_2 t).mp h) (by omega)) (fun h => absurd ((hcond0_3 t).mp h) (by omega))
  by_cases h1 : t.val < 14
  · exact runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) ((hcond0_1 t).mpr h1)
      (fun h => absurd ((hcond0_2 t).mp h) (by omega)) (fun h => absurd ((hcond0_3 t).mp h) (by omega))
  by_cases h2 : t.val = 14
  · exact runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega))
      ((hcond0_2 t).mpr (by omega)) ((hcond0_3 t).mpr (by omega))
  · exact runD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => absurd ((hcond0_0 t).mp h) (by omega)) (fun h => absurd ((hcond0_1 t).mp h) (by omega))
      (fun h => absurd ((hcond0_2 t).mp h) (by omega)) ((hcond0_3 t).mpr (by omega))

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- What the body hands back at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d))

/-- The buffer of a window the body touches at every point is handed back at what the data names. -/
theorem leaves_live (c : Dev nD) (w : Fin cfg0.W) (t : Fin cfg0.N) (hl : cfg0.idle w (grid0.coords t) = false) :
    (dats m 0 c).leavesExact w t = owns (c : Thread nD τ) ((cfg0.win w).stage (cfg0.slots t w)) fullShare ((dats m 0 c).after w t) := by
  unfold Dat.leavesExact; rw [hl]

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl), before0_13_of m (dats m 0 c) (A_eq m c 13) (fun _ => rfl), before0_14_of m (dats m 0 c) (A_eq m c 14) (fun _ => rfl), before0_15_of m (dats m 0 c) (A_eq m c 15) (fun _ => rfl), before0_16_of m (dats m 0 c) (A_eq m c 16) (fun _ => rfl), before0_17_of m (dats m 0 c) (A_eq m c 17) (fun _ => rfl), before0_18_of m (dats m 0 c) (A_eq m c 18) (fun _ => rfl), before0_19_of m (dats m 0 c) (A_eq m c 19) (fun _ => rfl), before0_20_of m (dats m 0 c) (A_eq m c 20) (fun _ => rfl), before0_21_of m (dats m 0 c) (A_eq m c 21) (fun _ => rfl), before0_22_of m (dats m 0 c) (A_eq m c 22) (fun _ => rfl), before0_23_of m (dats m 0 c) (A_eq m c 23) (fun _ => rfl)]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  rw [leaves_live m c 0 t (liveAt0_0 t), leaves_live m c 1 t (liveAt0_1 t), leaves_live m c 2 t (liveAt0_2 t), leaves_live m c 3 t (liveAt0_3 t), leaves_live m c 4 t (liveAt0_4 t), leaves_live m c 5 t (liveAt0_5 t), leaves_live m c 6 t (liveAt0_6 t), leaves_live m c 7 t (liveAt0_7 t), leaves_live m c 8 t (liveAt0_8 t), leaves_live m c 9 t (liveAt0_9 t), leaves_live m c 10 t (liveAt0_10 t), leaves_live m c 11 t (liveAt0_11 t), leaves_live m c 12 t (liveAt0_12 t), leaves_live m c 13 t (liveAt0_13 t), leaves_live m c 14 t (liveAt0_14 t), leaves_live m c 15 t (liveAt0_15 t), leaves_live m c 16 t (liveAt0_16 t), leaves_live m c 17 t (liveAt0_17 t), leaves_live m c 18 t (liveAt0_18 t), leaves_live m c 19 t (liveAt0_19 t), leaves_live m c 20 t (liveAt0_20 t), leaves_live m c 21 t (liveAt0_21 t), leaves_live m c 22 t (liveAt0_22 t), leaves_live m c 23 t (liveAt0_23 t)]
  unfold owns
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, -, H24⟩, ⟨%d25, %f25, -, H25⟩, ⟨%d26, %f26, -, H26⟩, ⟨%d27, %f27, -, H27⟩⟩
  iapply (run_any c t f0 f1 f2 f3 f4 f5 f6 f7 f8 f9 f10 f11 f12 f13 f14 f15 f16 f17 f18 f19 f20 f21 f22 f23 f24 f25 f26 f27 fs0 fs1 fs2 fs3 fs4 fs5 fs6 fs7 fs8 fs9 fs10 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, H21, H22, H23, ⟨%gH24, H24⟩, ⟨%gH25, H25⟩, ⟨%gH26, H26⟩, ⟨%gH27, H27⟩, ⟨%gHS0, HS0⟩, ⟨%gHS1, HS1⟩, ⟨%gHS2, HS2⟩, ⟨%gHS3, HS3⟩, ⟨%gHS4, HS4⟩, ⟨%gHS5, HS5⟩, ⟨%gHS6, HS6⟩, ⟨%gHS7, HS7⟩, ⟨%gHS8, HS8⟩, ⟨%gHS9, HS9⟩, ⟨%gHS10, HS10⟩⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexists _; iexists gHS0; (isplitr; (· ipureintro; exact rfl); iexact HS0)
      isplitl [HS1]; · iexists _; iexists gHS1; (isplitr; (· ipureintro; exact rfl); iexact HS1)
      isplitl [HS2]; · iexists _; iexists gHS2; (isplitr; (· ipureintro; exact rfl); iexact HS2)
      isplitl [HS3]; · iexists _; iexists gHS3; (isplitr; (· ipureintro; exact rfl); iexact HS3)
      isplitl [HS4]; · iexists _; iexists gHS4; (isplitr; (· ipureintro; exact rfl); iexact HS4)
      isplitl [HS5]; · iexists _; iexists gHS5; (isplitr; (· ipureintro; exact rfl); iexact HS5)
      isplitl [HS6]; · iexists _; iexists gHS6; (isplitr; (· ipureintro; exact rfl); iexact HS6)
      isplitl [HS7]; · iexists _; iexists gHS7; (isplitr; (· ipureintro; exact rfl); iexact HS7)
      isplitl [HS8]; · iexists _; iexists gHS8; (isplitr; (· ipureintro; exact rfl); iexact HS8)
      isplitl [HS9]; · iexists _; iexists gHS9; (isplitr; (· ipureintro; exact rfl); iexact HS9)
      iexists _; iexists gHS10; (isplitr; (· ipureintro; exact rfl); iexact HS10)
    iexact Hg
  isplitl [Ho]; · iexact Ho
  isplitl [H0]; · iexists f0; (isplitr; (· ipureintro; exact hf0); iexact H0)
  isplitl [H1]; · iexists f1; (isplitr; (· ipureintro; exact hf1); iexact H1)
  isplitl [H2]; · iexists f2; (isplitr; (· ipureintro; exact hf2); iexact H2)
  isplitl [H3]; · iexists f3; (isplitr; (· ipureintro; exact hf3); iexact H3)
  isplitl [H4]; · iexists f4; (isplitr; (· ipureintro; exact hf4); iexact H4)
  isplitl [H5]; · iexists f5; (isplitr; (· ipureintro; exact hf5); iexact H5)
  isplitl [H6]; · iexists f6; (isplitr; (· ipureintro; exact hf6); iexact H6)
  isplitl [H7]; · iexists f7; (isplitr; (· ipureintro; exact hf7); iexact H7)
  isplitl [H8]; · iexists f8; (isplitr; (· ipureintro; exact hf8); iexact H8)
  isplitl [H9]; · iexists f9; (isplitr; (· ipureintro; exact hf9); iexact H9)
  isplitl [H10]; · iexists f10; (isplitr; (· ipureintro; exact hf10); iexact H10)
  isplitl [H11]; · iexists f11; (isplitr; (· ipureintro; exact hf11); iexact H11)
  isplitl [H12]; · iexists f12; (isplitr; (· ipureintro; exact hf12); iexact H12)
  isplitl [H13]; · iexists f13; (isplitr; (· ipureintro; exact hf13); iexact H13)
  isplitl [H14]; · iexists f14; (isplitr; (· ipureintro; exact hf14); iexact H14)
  isplitl [H15]; · iexists f15; (isplitr; (· ipureintro; exact hf15); iexact H15)
  isplitl [H16]; · iexists f16; (isplitr; (· ipureintro; exact hf16); iexact H16)
  isplitl [H17]; · iexists f17; (isplitr; (· ipureintro; exact hf17); iexact H17)
  isplitl [H18]; · iexists f18; (isplitr; (· ipureintro; exact hf18); iexact H18)
  isplitl [H19]; · iexists f19; (isplitr; (· ipureintro; exact hf19); iexact H19)
  isplitl [H20]; · iexists f20; (isplitr; (· ipureintro; exact hf20); iexact H20)
  isplitl [H21]; · iexists f21; (isplitr; (· ipureintro; exact hf21); iexact H21)
  isplitl [H22]; · iexists f22; (isplitr; (· ipureintro; exact hf22); iexact H22)
  isplitl [H23]; · iexists f23; (isplitr; (· ipureintro; exact hf23); iexact H23)
  isplitl [H24]; · iexists _; iexists gH24; (isplitr; (· ipureintro; exact rfl); iexact H24)
  isplitl [H25]; · iexists _; iexists gH25; (isplitr; (· ipureintro; exact rfl); iexact H25)
  isplitl [H26]; · iexists _; iexists gH26; (isplitr; (· ipureintro; exact rfl); iexact H26)
  iexists _; iexists gH27; (isplitr; (· ipureintro; exact rfl); iexact H27)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

-- the launch's implicit arguments are found by unifying its conclusion with this one
set_option backward.isDefEq.respectTransparency.types false in
/-- The launch: the inputs end unchanged and every semaphore counter ends at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m 0 c).toRForget forgets0) (A_eq m) ((θ_run defs _ _).mono (fun _ h => h.1) (run_main_quiescent m ρ))

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel.Hand

end
-- ==== Proof.IdealKit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! What the runs and the frame of the idealized kernel share: the entry to the region, the blocks the windows hold, the branch conditions in
closed form over the points, and the staging and scratch memrefs. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 6 rfl).trans ((hA c 6).trans (V_main_arg2 m c)),
      (Pipeline.RDat.FramePost.arr_in h c 10 rfl).trans ((hA c 10).trans (V_main_arg3 m c)),
      (Pipeline.RDat.FramePost.arr_in h c 14 rfl).trans ((hA c 14).trans (V_main_arg4 m c)),
      (Pipeline.RDat.FramePost.arr_in h c 20 rfl).trans ((hA c 20).trans (V_main_arg5 m c)),
      (Pipeline.RDat.FramePost.arr_in h c 21 rfl).trans ((hA c 21).trans (V_main_arg6 m c)),
      (Pipeline.RDat.FramePost.arr_in h c 22 rfl).trans ((hA c 22).trans (V_main_arg7 m c)),
      ((h c).2 main_arg8 (Pipeline.mem_restRefs_of main_arg8 (by decide) (by decide))).trans (V_main_arg8 m c),
      (Pipeline.RDat.FramePost.arr_in h c 16 rfl).trans ((hA c 16).trans (V_main_arg9 m c)),
      ((h c).2 main_arg10 (Pipeline.mem_restRefs_of main_arg10 (by decide) (by decide))).trans (V_main_arg10 m c),
      (Pipeline.RDat.FramePost.arr_in h c 23 rfl).trans ((hA c 23).trans (V_main_arg11 m c)),
      (Pipeline.RDat.FramePost.arr_in h c 2 rfl).trans ((hA c 2).trans (V_main_arg12 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 21 = 0 :=
  (fun t => by
    have ht : t.val < 21 := Nat.lt_of_lt_of_eq t.isLt N_0
    have e0 : (grid0.coords t 0).val = t.val / 1 % 21 := Pipeline.Grid.coords_val t 0 (by decide) rfl
    simp only [cond0_0, k0_cond1, e0]
    word_cmp
   : ∀ t : Fin grid0.N, cond0_0 (grid0.coords t) ↔ t.val % 21 = 0)

/-- The condition of the body's `scf.if` 1 (`k0_h2`), from the grid coordinates (the skeleton's scalar
    chain substituted). -/
abbrev cond0_1 (i : grid0.Coords) : Prop := k0_cond2 i = 1#1
/-- It holds at the points before point 14 — decided over the grid. -/
theorem hcond0_1 : ∀ t : Fin cfg0.N, cond0_1 (grid0.coords t) ↔ t.val < 14 :=
  (by decide +kernel : ∀ t : Fin grid0.N, cond0_1 (grid0.coords t) ↔ t.val < 14)

/-- The condition of the body's `scf.if` 2 (`k0_h3`), from the grid coordinates (the skeleton's scalar
    chain substituted). -/
abbrev cond0_2 (i : grid0.Coords) : Prop := k0_cond3 i = 1#1
/-- It holds at point 14 only — by arithmetic of the point. -/
theorem hcond0_2 : ∀ t : Fin cfg0.N, cond0_2 (grid0.coords t) ↔ t.val % 21 = 14 :=
  (fun t => by
    have ht : t.val < 21 := Nat.lt_of_lt_of_eq t.isLt N_0
    have e0 : (grid0.coords t 0).val = t.val / 1 % 21 := Pipeline.Grid.coords_val t 0 (by decide) rfl
    simp only [cond0_2, k0_cond3, e0]
    word_cmp
   : ∀ t : Fin grid0.N, cond0_2 (grid0.coords t) ↔ t.val % 21 = 14)

/-- The condition of the body's `scf.if` 3 (`k0_h4`), from the grid coordinates (the skeleton's scalar
    chain substituted). -/
abbrev cond0_3 (i : grid0.Coords) : Prop := k0_cond4 i = 1#1
/-- It holds at the points from point 14 on — decided over the grid. -/
theorem hcond0_3 : ∀ t : Fin cfg0.N, cond0_3 (grid0.coords t) ↔ 14 ≤ t.val :=
  (by decide +kernel : ∀ t : Fin grid0.N, cond0_3 (grid0.coords t) ↔ 14 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 20 is never idle (an input). -/
theorem liveAt0_20 : ∀ t : Fin cfg0.N, cfg0.idle 20 (grid0.coords t) = false := fun _ => rfl
/-- Window 21 is never idle (an input). -/
theorem liveAt0_21 : ∀ t : Fin cfg0.N, cfg0.idle 21 (grid0.coords t) = false := fun _ => rfl
/-- Window 22 is never idle (an input). -/
theorem liveAt0_22 : ∀ t : Fin cfg0.N, cfg0.idle 22 (grid0.coords t) = false := fun _ => rfl
/-- Window 23 is never idle (an input). -/
theorem liveAt0_23 : ∀ t : Fin cfg0.N, cfg0.idle 23 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x96 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S9 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1792x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1792x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S28x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S28x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S28x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S28x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S28x512 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S28x512 .i8 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S28x512 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S28x512 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S9x2x32x512 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S9x2x32x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S9x32x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S9x32x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S576x3584 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S7168x512 .i8 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S112x512 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S112x512 .i8 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S9x32x512 .bf16 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S96x512 .bf16 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S96x14336 .bf16 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S96x64 .bf16 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S96x32 .bf16 := win0_27.stage (cfg0.slots t 27)
abbrev hs0_27 (t : Fin cfg0.N) : (ms0_27 t).IsWhole := hstage0_27 ((cfg0.slots t 27).cast nbuf0_27)
/-- The scratch operands: whole scoped buffers of the kernel's own, passed beside the windows. -/
abbrev scM0_0 : Memref sig .tc .vmem S14x96x256 .bf16 := Memref.whole cc0_scratch0
abbrev scM0_1 : Memref sig .tc .vmem S56x96x256 .bf16 := Memref.whole cc0_scratch1
abbrev scM0_2 : Memref sig .tc .vmem S256x256 .bf16 := Memref.whole cc0_scratch2
abbrev scM0_3 : Memref sig .tc .vmem S96x288 .bf16 := Memref.whole cc0_scratch3
abbrev scM0_4 : Memref sig .tc .vmem S96x288 .bf16 := Memref.whole cc0_scratch4
abbrev scM0_5 : Memref sig .tc .vmem S96x288 .bf16 := Memref.whole cc0_scratch5
abbrev scM0_6 : Memref sig .tc .vmem S288x96 .f32 := Memref.whole cc0_scratch6
abbrev scM0_7 : Memref sig .tc .vmem S4x14x2x512 .bf16 := Memref.whole cc0_scratch7
abbrev scM0_8 : Memref sig .tc .vmem S4x14x2x512 .bf16 := Memref.whole cc0_scratch8
abbrev scM0_9 : Memref sig .tc .vmem S56x2x512 .bf16 := Memref.whole cc0_scratch9
abbrev scM0_10 : Memref sig .tc .vmem S56x2x512 .bf16 := Memref.whole cc0_scratch10
/-- The scratch `arg29` the kernel carries between points, as a view: what it holds is stated through it. -/
abbrev VS0_0 : View sig .tc .vmem S14x96x256 .bf16 := scM0_0.view
/-- The scratch `arg31` the kernel carries between points, as a view: what it holds is stated through it. -/
abbrev VS0_2 : View sig .tc .vmem S256x256 .bf16 := scM0_2.view
/-- The scratch `arg32` the kernel carries between points, as a view: what it holds is stated through it. -/
abbrev VS0_3 : View sig .tc .vmem S96x288 .bf16 := scM0_3.view
/-- The scratch `arg33` the kernel carries between points, as a view: what it holds is stated through it. -/
abbrev VS0_4 : View sig .tc .vmem S96x288 .bf16 := scM0_4.view
/-- The scratch `arg35` the kernel carries between points, as a view: what it holds is stated through it. -/
abbrev VS0_6 : View sig .tc .vmem S288x96 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Gen

end
-- ==== Proof.GateUp.lean ====
module

public import proofs.«01_k».proof.Proof.Gen.KernelIdeal
public import proofs.«01_k».proof.Proof.Gen.KernelIdeal.Skeleton
public import Idealize.ShloMosaic.Lib.Pointwise
public import Idealize.ShloMosaic.Lib.Bf16Pair

/-! The gate and up half of the kernel as plain functions of the blocks it loads. -/

@[expose] public section

noncomputable section

namespace Cert.KernelIdeal.Hand

open Idealize.ShloMosaic Cert.KernelIdeal Facts₀ Facts

variable {F : FTy → Type} [FloatOps F]

/-- `f 0 + f 1 + … + f n`, added from the left. -/
def chain {s : Shape} {e : FTy} : (n : ℕ) → (Fin (n + 1) → FVec F s e) → FVec F s e
  | 0, f => f 0
  | n + 1, f => addf (chain n (fun i => f i.castSucc)) (f (Fin.last (n + 1)))

/-- The 256 unpacked codes of a group pair: rows `2r` and `2r + 1` are the low and the high field of byte row `r`. -/
def codeRows (v : Vec F S128x256 .i8) : IVec S256x256 32 :=
  shapeCast S256x256 (concatenate S128x2x256 1
    [⟨S128x1x256, shapeCast S128x1x256 (andi (extui 32 v natLt_8_32) (broadcast S128x256 15#32)) shapeCasts_S128x256_S128x1x256⟩,
     ⟨S128x1x256, shapeCast S128x1x256 (shrsi (extui 32 v natLt_8_32) (broadcast S128x256 4#32)) shapeCasts_S128x256_S128x1x256⟩]
    concatenates_S128x1x256_S128x1x256_S128x2x256_d1) shapeCasts_S128x2x256_S256x256

/-- Two rows repeated down 256 rows. -/
def spreadRows (v : FVec F S2x256 .bf16) : FVec F S256x256 .bf16 :=
  shapeCast S256x256 (broadcastTo S128x2x256 (shapeCast S1x2x256 (shapeCast S1x2x256 v shapeCasts_S2x256_S1x2x256)
    shapeCasts_S1x2x256_S1x2x256) broadcasts_S1x2x256_S128x2x256) shapeCasts_S128x2x256_S256x256

/-- One group pair's product: 256 rows of the activation against the dequantized codes. -/
def blkDot (x : Vec F S1x96x256 .bf16) (v : Vec F S128x256 .i8) (s z : FVec F S2x256 .bf16) : FVec F S96x256 .f32 :=
  matmul dot_S96x256_S256x256_S96x256_1_0_0_1_n_n none (shapeCast S96x256 x shapeCasts_S1x96x256_S96x256)
    (mulf (subf (sitofp .bf16 (codeRows v)) (spreadRows z)) (spreadRows s)) (constant S96x256 .f32 0x00000000#32)

/-- The scale rows of a slab, the two halves interleaved. -/
def pairRows (raw : Vec F S14x2x256 .bf16) : FVec F S28x256 .bf16 :=
  interleaveRows S28x256
    (shapeCast S14x256 (rowsOfParity 0 S14x1x256 raw bitcasts_S14x2x256_w16_S14x1x256_w32) shapeCasts_S14x1x256_S14x256)
    (shapeCast S14x256 (rowsOfParity 1 S14x1x256 raw bitcasts_S14x2x256_w16_S14x1x256_w32) shapeCasts_S14x1x256_S14x256)
    bitcasts_S28x256_w16_S14x256_w32

theorem pairSlice : ∀ g : Fin 14, S28x256.Slices ![2 * g.val, 0] S2x256 := by decide

/-- The low-rank half: the expanded weights of the nine adapters stacked. -/
def lora (l : Vec F S96x288 .bf16) (a : Fin 9 → Vec F S1x1x32x256 .bf16) : FVec F S96x256 .f32 :=
  matmul dot_S96x288_S288x256_S96x256_1_0_0_1_n_n none l
    (concatenate S288x256 0
      [⟨S32x256, shapeCast S32x256 (a 0) shapeCasts_S1x1x32x256_S32x256⟩, ⟨S32x256, shapeCast S32x256 (a 1) shapeCasts_S1x1x32x256_S32x256⟩,
       ⟨S32x256, shapeCast S32x256 (a 2) shapeCasts_S1x1x32x256_S32x256⟩, ⟨S32x256, shapeCast S32x256 (a 3) shapeCasts_S1x1x32x256_S32x256⟩,
       ⟨S32x256, shapeCast S32x256 (a 4) shapeCasts_S1x1x32x256_S32x256⟩, ⟨S32x256, shapeCast S32x256 (a 5) shapeCasts_S1x1x32x256_S32x256⟩,
       ⟨S32x256, shapeCast S32x256 (a 6) shapeCasts_S1x1x32x256_S32x256⟩, ⟨S32x256, shapeCast S32x256 (a 7) shapeCasts_S1x1x32x256_S32x256⟩,
       ⟨S32x256, shapeCast S32x256 (a 8) shapeCasts_S1x1x32x256_S32x256⟩]
      concatenates_S32x256_S32x256_S32x256_S32x256_S32x256_S32x256_S32x256_S32x256_S32x256_S288x256_d0)
    (constant S96x256 .f32 0x00000000#32)

/-- One 256-column block of a projection: fourteen group pairs and the low-rank half. -/
def proj (s z : FVec F S28x256 .bf16) (x : Fin 14 → Vec F S1x96x256 .bf16) (v : Fin 14 → Vec F S128x256 .i8)
    (l : Vec F S96x288 .bf16) (a : Fin 9 → Vec F S1x1x32x256 .bf16) : FVec F S96x256 .f32 :=
  addf (chain 13 fun g => blkDot (x g) (v g) (extractStridedSlice S2x256 ![2 * g.val, 0] s (pairSlice g))
    (extractStridedSlice S2x256 ![2 * g.val, 0] z (pairSlice g))) (lora l a)

/-- One block of the hidden activation. -/
def hidden (g u : FVec F S96x256 .f32) : FVec F S96x256 .bf16 :=
  truncf .bf16 (mulf (mulf g (logistic g)) u) bitsLt_bf16_f32

/-- Row block `g` of the permuted activation. -/
def xpAt (g : Fin 14) : Rect S14x96x256 := Rect.unit ![g.val, 0, 0] S1x96x256.size (by revert g; decide)
/-- Byte rows of group pair `g`, at column offset `256 h`. -/
def codeAt (h : Fin 2) (g : Fin 14) : Rect S1792x512 := Rect.unit ![128 * g.val, 256 * h.val] S128x256.size (by revert g h; decide)
/-- Adapter `q`'s expansion rows for projection `p`, at column offset `256 h`. -/
def adapterAt (p h : Fin 2) (q : Fin 9) : Rect S9x2x32x512 := Rect.unit ![q.val, p.val, 0, 256 * h.val] S1x1x32x256.size (by revert p h q; decide)

end Cert.KernelIdeal.Hand

end
-- ==== Proof.Slabs.lean ====
module

public import proofs.«01_k».proof.Proof.GateUp
public import Idealize.ShloMosaic.Lib.ValueLayout

/-! The unpacked scale and zero-point slabs, and what a load of half a slab reads. -/

@[expose] public section

noncomputable section

namespace Cert.KernelIdeal.Hand

open Idealize.ShloMosaic Idealize.ShloMosaic.TcCoe Idealize.ShloMosaic.Pointwise Cert.KernelIdeal Facts₀ Facts

/-- Slab `q` of the packed buffer. -/
def slabAt (q : Fin 4) : Rect S4x14x2x512 := Rect.unit ![q.val, 0, 0, 0] S1x14x2x512.size (by revert q; decide)

/-- Half `h` of slab `q`: 256 of its columns, as the body addresses it. -/
def halfAt (q : Fin 4) (h : Fin 2) : LoadRect S4x14x2x512 :=
  (slabAt q).withinL ((Rect.unit (s := S14x2x512) ![0, 0, 256 * h.val] S14x2x256.size (by revert h; decide)).toLoadRect.consLift
    ![1, 14, 2, 512] rfl (fun a => by fin_cases a <;> rfl)) (by revert q; decide)

theorem halfAt_numel (q : Fin 4) (h : Fin 2) : S14x2x256.numel = (halfAt q h).shape.numel :=
  LoadRect.numel_consLift (lr := (Rect.unit (s := S14x2x512) ![0, 0, 256 * h.val] S14x2x256.size (by revert h; decide)).toLoadRect) ![1, 14, 2, 512] rfl (fun a => by fin_cases a <;> rfl)

variable {F : FTy → Type} [FloatOps F]

/-- The four slabs, as they are stored one after the other, the last stored first. -/
def slabs (p : Fin 4 → Vec F S1x14x2x512 .bf16) : List (View.Piece (Elt F) S4x14x2x512 .bf16) :=
  [⟨slabAt 3, p 3⟩, ⟨slabAt 2, p 2⟩, ⟨slabAt 1, p 1⟩, ⟨slabAt 0, p 0⟩]

/-- Half `h` of slab `q` of a buffer whose four slabs were stored one after the other. -/
def slabHalf (m : Memref sig .tc .vmem S4x14x2x512 .bf16) (p : Fin 4 → Vec F S1x14x2x512 .bf16) (q : Fin 4) (h : Fin 2) :
    Vec F S14x2x256 .bf16 :=
  LoadRect.valAlong (lr := (Rect.unit (s := S14x2x512) ![0, 0, 256 * h.val] S14x2x256.size (by revert h; decide)).toLoadRect)
    (halfAt_numel q h) (m.view.readCov (Val := Elt F) (slabs p) (halfAt q h))

theorem slab_not_mem {q q' : Fin 4} (h : q ≠ q') (x : (slabAt q).shape.Idx) : (slabAt q).emb x ∉ (slabAt q').set := by
  intro hm
  rw [slabAt, Rect.mem_set_unit] at hm
  have h0 := hm 0
  have hx : (x 0).val < 1 := (x 0).isLt
  have e : ((slabAt q).emb x 0).val = q.val + 1 * (x 0).val := rfl
  have l : (![q'.val, 0, 0, 0] : Fin 4 → Nat) 0 = q'.val := rfl
  have s : S1x14x2x512.size 0 = 1 := rfl
  apply h; apply Fin.ext
  simp only [l] at h0
  have := h0.1
  have := h0.2
  change _ < q'.val + 1 at this
  omega

theorem canon_slabs (p : Fin 4 → Vec F S1x14x2x512 .bf16) :
    (q : Fin 4) → (x : (slabAt q).shape.Idx) → View.canon (Val := Elt F) (slabs p) ((slabAt q).emb x) = p q x
  | 0, x => (View.canon_cons_of_not_mem (Val := Elt F) ⟨slabAt 3, p 3⟩ _ (slab_not_mem (q := 0) (q' := 3) (by decide) x)).trans <|
      (View.canon_cons_of_not_mem (Val := Elt F) ⟨slabAt 2, p 2⟩ _ (slab_not_mem (q := 0) (q' := 2) (by decide) x)).trans <|
      (View.canon_cons_of_not_mem (Val := Elt F) ⟨slabAt 1, p 1⟩ _ (slab_not_mem (q := 0) (q' := 1) (by decide) x)).trans <|
      View.canon_cons_emb (Val := Elt F) (slabAt 0) (p 0) _ x
  | 1, x => (View.canon_cons_of_not_mem (Val := Elt F) ⟨slabAt 3, p 3⟩ _ (slab_not_mem (q := 1) (q' := 3) (by decide) x)).trans <|
      (View.canon_cons_of_not_mem (Val := Elt F) ⟨slabAt 2, p 2⟩ _ (slab_not_mem (q := 1) (q' := 2) (by decide) x)).trans <|
      View.canon_cons_emb (Val := Elt F) (slabAt 1) (p 1) _ x
  | 2, x => (View.canon_cons_of_not_mem (Val := Elt F) ⟨slabAt 3, p 3⟩ _ (slab_not_mem (q := 2) (q' := 3) (by decide) x)).trans <|
      View.canon_cons_emb (Val := Elt F) (slabAt 2) (p 2) _ x
  | 3, x => View.canon_cons_emb (Val := Elt F) (slabAt 3) (p 3) _ x

theorem slabHalf_apply (m : Memref sig .tc .vmem S4x14x2x512 .bf16) (p : Fin 4 → Vec F S1x14x2x512 .bf16) (q : Fin 4) (h : Fin 2)
    (g : Fin 14) (e : Fin 2) (j : Fin 256) :
    slabHalf m p q h (ix3 g e j) = p q (ix4 (0 : Fin 1) g e (⟨256 * h.val + j.val, by omega⟩ : Fin 512)) := by
  refine Eq.trans ?_ (canon_slabs p q (ix4 (0 : Fin 1) g e (⟨256 * h.val + j.val, by omega⟩ : Fin 512)))
  show m.view.readCov (Val := Elt F) (slabs p) (halfAt q h) (Shape.reshapeEquiv (halfAt_numel q h) (ix3 g e j)) = _
  rw [View.readCov_eq_canon']
  refine congrArg (View.canon (Val := Elt F) (slabs p)) ?_
  have r := Idealize.ShloMosaic.ValueIdx.reshapeEquiv_ix3_1abc (a := 14) (b := 2) (c := 256) (halfAt_numel q h) g e j
  refine (congrArg (halfAt q h).idx r).trans ?_
  funext a
  apply Fin.ext
  fin_cases a
  · show q.val + 0 + 1 * 0 = q.val + 1 * 0; omega
  · show 0 + 0 + 1 * g.val = 0 + 1 * g.val; omega
  · show 0 + 0 + 1 * e.val = 0 + 1 * e.val; omega
  · show 0 + 256 * h.val + 1 * j.val = 0 + 1 * (256 * h.val + j.val); omega

theorem pairRows_apply (raw : Vec F S14x2x256 .bf16) (g : Fin 14) (e : Fin 2) (j : Fin 256) :
    pairRows raw (ix2 (⟨2 * g.val + e.val, by omega⟩ : Fin 28) j) = raw (ix3 g e j) := by
  pointwise [pairRows]
  rcases e with ⟨_ | _ | e, he⟩
  · have h : (2 * g.val + 0) / 2 = g.val := by omega
    simp only [show (2 * g.val + 0) % 2 = 0 by omega, if_true, h]; rfl
  · have h : (2 * g.val + 1) / 2 = g.val := by omega
    simp only [show (2 * g.val + 1) % 2 = 1 by omega, h]; rfl
  · omega

theorem slabScale_apply (v : Vec Ideal S28x512 .bf16) (g : Fin 14) (e : Fin 2) (j : Fin 512) :
    Gen.k0_pay50 v (ix4 (0 : Fin 1) g e j) = v (ix2 (⟨14 * e.val + g.val, by omega⟩ : Fin 28) j) := by
  pointwise [Gen.k0_pay50]
  rcases e with ⟨_ | _ | e, he⟩
  · simp
  · simp
  · omega

theorem slabZero_apply (v : Vec Ideal S28x512 .i8) (g : Fin 14) (e : Fin 2) (j : Fin 512) :
    Gen.k0_pay51 (F := Ideal) v (ix4 (0 : Fin 1) g e j) = FloatOps.sitofp (F := Ideal) .bf16 ((v (ix2 (⟨14 * e.val + g.val, by omega⟩ : Fin 28) j)).setWidth 32) := by
  pointwise [Gen.k0_pay51]
  rcases e with ⟨_ | _ | e, he⟩
  · simp; rfl
  · simp; rfl
  · omega

end Cert.KernelIdeal.Hand

end
-- ==== Proof.GateUpAt.lean ====
module

public import proofs.«01_k».proof.Proof.Slabs

/-! The gate and up half's blocks at an index, over the extended reals. -/

@[expose] public section

noncomputable section

namespace Cert.KernelIdeal.Hand

open Idealize.ShloMosaic Idealize.ShloMosaic.TcCoe Idealize.ShloMosaic.Pointwise Cert.KernelIdeal Facts₀ Facts

/-- The low code of a byte, and its high code, as a number. -/
def codeLo (w : BitVec 8) : EReal := FloatOps.sitofp (F := Ideal) .f32 (IntOp.andi (w.setWidth 32) 15#32)
def codeHi (w : BitVec 8) : EReal := FloatOps.sitofp (F := Ideal) .f32 (IntOp.shrsi .vector (w.setWidth 32) 4#32)
/-- The code a byte holds for parity `e` of the rows. -/
def codeOf (e : ℕ) (w : BitVec 8) : EReal := if e < 1 then codeLo w else codeHi w

theorem chain_apply {s : Shape} {e : FTy} (i : s.Idx) : (n : ℕ) → (f : Fin (n + 1) → FVec Ideal s e) →
    chain n f i = (∑ g, (f g i : EReal) : EReal)
  | 0, f => (Fin.sum_univ_one fun g : Fin 1 => (f g i : EReal)).symm
  | n + 1, f => by
      rw [Fin.sum_univ_castSucc, ← chain_apply i n]; rfl

theorem blkDot_apply (x : Vec Ideal S1x96x256 .bf16) (v : Vec Ideal S128x256 .i8) (s z : FVec Ideal S2x256 .bf16) (b : Fin 96)
    (j : Fin 256) :
    blkDot x v s z (ix2 b j) = (∑ k : Fin 256, (x (ix3 (0 : Fin 1) b k) : EReal)
      * ((codeOf (k.val % 2) (v (ix2 (⟨k.val / 2, by omega⟩ : Fin 128) j)) - z (ix2 (⟨k.val % 2, by omega⟩ : Fin 2) j))
        * s (ix2 (⟨k.val % 2, by omega⟩ : Fin 2) j)) : EReal) := by
  pointwise [blkDot, codeRows, spreadRows]
  refine Finset.sum_congr rfl fun k _ => ?_
  unfold codeOf
  by_cases h : k.val % 2 < 1
  · simp only [h, if_true]; rfl
  · simp only [h, if_false]; rfl

theorem adapter_at (a : Fin 9 → Vec Ideal S1x1x32x256 .bf16) (j : Fin 256) (k : ℕ) (hk : k / 32 < 9) (hk' : k % 32 < 32) (i : Fin 9) (r : ℕ)
    (hr : r < 32) (hi : k / 32 = i.val) (e : r = k % 32) :
    a i (ix4 (0 : Fin 1) (0 : Fin 1) (⟨r, hr⟩ : Fin 32) j) = a ⟨k / 32, hk⟩ (ix4 (0 : Fin 1) (0 : Fin 1) (⟨k % 32, hk'⟩ : Fin 32) j) := by
  subst e
  rw [show (⟨k / 32, hk⟩ : Fin 9) = i from Fin.ext hi]

theorem lora_apply (l : Vec Ideal S96x288 .bf16) (a : Fin 9 → Vec Ideal S1x1x32x256 .bf16) (b : Fin 96) (j : Fin 256) :
    lora l a (ix2 b j) = (∑ k : Fin 288, (l (ix2 b k) : EReal)
      * a ⟨k.val / 32, by omega⟩ (ix4 (0 : Fin 1) (0 : Fin 1) (⟨k.val % 32, by omega⟩ : Fin 32) j) : EReal) := by
  pointwise [lora]
  refine Finset.sum_congr rfl fun k _ => congrArg _ ?_
  have hk := k.isLt
  by_cases h0 : k.val < 32
  · rw [dif_pos h0]
    exact adapter_at a j k.val _ _ 0 _ _ (by show _ = 0; omega) (by omega)
  rw [dif_neg h0]
  by_cases h1 : k.val - 32 < 32
  · rw [dif_pos h1]
    exact adapter_at a j k.val _ _ 1 _ _ (by show _ = 1; omega) (by omega)
  rw [dif_neg h1]
  by_cases h2 : k.val - 32 - 32 < 32
  · rw [dif_pos h2]
    exact adapter_at a j k.val _ _ 2 _ _ (by show _ = 2; omega) (by omega)
  rw [dif_neg h2]
  by_cases h3 : k.val - 32 - 32 - 32 < 32
  · rw [dif_pos h3]
    exact adapter_at a j k.val _ _ 3 _ _ (by show _ = 3; omega) (by omega)
  rw [dif_neg h3]
  by_cases h4 : k.val - 32 - 32 - 32 - 32 < 32
  · rw [dif_pos h4]
    exact adapter_at a j k.val _ _ 4 _ _ (by show _ = 4; omega) (by omega)
  rw [dif_neg h4]
  by_cases h5 : k.val - 32 - 32 - 32 - 32 - 32 < 32
  · rw [dif_pos h5]
    exact adapter_at a j k.val _ _ 5 _ _ (by show _ = 5; omega) (by omega)
  rw [dif_neg h5]
  by_cases h6 : k.val - 32 - 32 - 32 - 32 - 32 - 32 < 32
  · rw [dif_pos h6]
    exact adapter_at a j k.val _ _ 6 _ _ (by show _ = 6; omega) (by omega)
  rw [dif_neg h6]
  by_cases h7 : k.val - 32 - 32 - 32 - 32 - 32 - 32 - 32 < 32
  · rw [dif_pos h7]
    exact adapter_at a j k.val _ _ 7 _ _ (by show _ = 7; omega) (by omega)
  rw [dif_neg h7]
  exact adapter_at a j k.val _ _ 8 _ _ (by show _ = 8; omega) (by omega)

theorem proj_apply (s z : FVec Ideal S28x256 .bf16) (x : Fin 14 → Vec Ideal S1x96x256 .bf16) (v : Fin 14 → Vec Ideal S128x256 .i8)
    (l : Vec Ideal S96x288 .bf16) (a : Fin 9 → Vec Ideal S1x1x32x256 .bf16) (b : Fin 96) (j : Fin 256) :
    proj s z x v l a (ix2 b j) = ((∑ g : Fin 14, ∑ k : Fin 256, (x g (ix3 (0 : Fin 1) b k) : EReal)
        * ((codeOf (k.val % 2) (v g (ix2 (⟨k.val / 2, by omega⟩ : Fin 128) j)) - z (ix2 (⟨2 * g.val + k.val % 2, by omega⟩ : Fin 28) j))
          * s (ix2 (⟨2 * g.val + k.val % 2, by omega⟩ : Fin 28) j)))
      + ∑ k : Fin 288, (l (ix2 b k) : EReal)
        * a ⟨k.val / 32, by omega⟩ (ix4 (0 : Fin 1) (0 : Fin 1) (⟨k.val % 32, by omega⟩ : Fin 32) j) : EReal) := by
  refine (congrArg₂ (fun p q : EReal => p + q) (chain_apply (ix2 b j) 13 _) (lora_apply l a b j)).trans ?_
  refine congrArg (fun p : EReal => p + _) (Finset.sum_congr rfl fun g _ => ?_)
  refine (blkDot_apply _ _ _ _ b j).trans ?_
  refine Finset.sum_congr rfl fun k _ => ?_
  pointwise []

/-- A sum over fourteen blocks of 256 rows, the rows of each parity apart. -/
theorem sum_rows (f : ℕ → ℕ → EReal) :
    (∑ g : Fin 14, ∑ k : Fin 256, f g.val k.val)
      = (∑ x : Fin 1792, f (x.val / 128) (2 * (x.val % 128))) + ∑ x : Fin 1792, f (x.val / 128) (2 * (x.val % 128) + 1) := by
  have h1 : ∀ g : ℕ, (∑ k : Fin 256, f g k.val) = ∑ r : Fin 128, (f g (2 * r.val) + f g (2 * r.val + 1)) := fun g => by
    rw [← (finProdFinEquiv (m := 128) (n := 2)).sum_comp, Fintype.sum_prod_type]
    refine Finset.sum_congr rfl fun r _ => ?_
    rw [Fin.sum_univ_two]
    simp [finProdFinEquiv, add_comm]
  have h2 : ∀ h : ℕ → ℕ → EReal, (∑ x : Fin 1792, h (x.val / 128) (x.val % 128)) = ∑ g : Fin 14, ∑ r : Fin 128, h g.val r.val := fun h => by
    rw [← (finProdFinEquiv (m := 14) (n := 128)).sum_comp, Fintype.sum_prod_type]
    refine Finset.sum_congr rfl fun g _ => Finset.sum_congr rfl fun r _ => ?_
    have e1 : (r.val + 128 * g.val) / 128 = g.val := by omega
    have e2 : (r.val + 128 * g.val) % 128 = r.val := by omega
    simp only [finProdFinEquiv, Equiv.coe_fn_mk, e1, e2]
  rw [h2 fun g r => f g (2 * r), h2 fun g r => f g (2 * r + 1), ← Finset.sum_add_distrib]
  refine Finset.sum_congr rfl fun g _ => ?_
  rw [h1, Finset.sum_add_distrib]

/-- A sum over nine blocks of 32 rows. -/
theorem sum_adapters (f : ℕ → ℕ → EReal) :
    (∑ k : Fin 288, f (k.val / 32) (k.val % 32)) = ∑ n : Fin 9, ∑ r : Fin 32, f n.val r.val := by
  rw [← (finProdFinEquiv (m := 9) (n := 32)).sum_comp, Fintype.sum_prod_type]
  refine Finset.sum_congr rfl fun g _ => Finset.sum_congr rfl fun r _ => ?_
  have e1 : (r.val + 32 * g.val) / 32 = g.val := by omega
  have e2 : (r.val + 32 * g.val) % 32 = r.val := by omega
  simp only [finProdFinEquiv, Equiv.coe_fn_mk, e1, e2]

end Cert.KernelIdeal.Hand

end
-- ==== Proof.Prologue.lean ====
module

public import proofs.«01_k».proof.Proof.Slabs

/-! The first step's work as plain functions of the blocks it loads: the permuted activation, the
selected low-rank projection and its expansion. -/

@[expose] public section

noncomputable section

namespace Cert.KernelIdeal.Hand

open Idealize.ShloMosaic Idealize.ShloMosaic.TcCoe Cert.KernelIdeal Facts₀ Facts

variable {F : FTy → Type} [FloatOps F]

/-- The last of `f 0 … f (n-1)` whose condition holds, and zero when none does. -/
def pick {s : Shape} : (n : ℕ) → (Fin n → IVec s 1) → (Fin n → FVec F s .f32) → FVec F s .f32
  | 0, _, _ => broadcast s (Scalar.ofBits .f32 0x00000000#32)
  | n + 1, c, f => select (c (Fin.last n)) (f (Fin.last n)) (pick n (fun i => c i.castSucc) (fun i => f i.castSucc))

/-- Which rows use adapter `n`. -/
def uses (idx : IVec S1x96 32) (n : ℕ) : IVec S1x96 1 := cmpi .eq idx (broadcast S1x96 (BitVec.ofNat 32 n))

theorem rowSlice : ∀ n : Fin 9, S576x96.Slices ![64 * n.val, 0] S64x96 := by decide

/-- Each row's own adapter product, scaled. -/
def lowRank (idx : IVec S1x96 32) (all : FVec F S576x96 .f32) (sc : Fin 9 → Elt F .f32) : FVec F S64x96 .f32 :=
  mulf
    (pick 9 (fun n => broadcastTo S64x96 (shapeCast S1x96 (uses idx n.val) shapeCasts_S1x96_S1x96) broadcasts_S1x96_S64x96)
      (fun n => extractStridedSlice S64x96 ![64 * n.val, 0] all (rowSlice n)))
    (broadcastTo S64x96 (pick 9 (fun n => uses idx n.val) (fun n => broadcast S1x96 (sc n))) broadcasts_S1x96_S64x96)

theorem partSlice : ∀ t : Fin 2, S64x96.Slices ![32 * t.val, 0] S32x96 := by decide

/-- Rows `32 t …` of the low-rank values where adapter `n` is used, zero elsewhere. -/
def spreadAt (t : Fin 2) (idx : IVec S1x96 32) (s : FVec F S64x96 .f32) (n : ℕ) : FVec F S32x96 .f32 :=
  select (broadcastTo S32x96 (shapeCast S1x96 (uses idx n) shapeCasts_S1x96_S1x96) broadcasts_S1x96_S32x96)
    (extractStridedSlice S32x96 ![32 * t.val, 0] s (partSlice t)) (broadcast S32x96 (Scalar.ofBits .f32 0x00000000#32))

/-- The low-rank values of projection `t`, each row's in its own adapter's columns. -/
def expandAt (t : Fin 2) (idx : IVec S1x96 32) (s : FVec F S64x96 .f32) : FVec F S96x288 .bf16 :=
  shapeCast S96x288 (truncf .bf16 (transpose S96x288 [1, 0] (concatenate S288x96 0
    [⟨S32x96, spreadAt t idx s 0⟩, ⟨S32x96, spreadAt t idx s 1⟩, ⟨S32x96, spreadAt t idx s 2⟩, ⟨S32x96, spreadAt t idx s 3⟩,
     ⟨S32x96, spreadAt t idx s 4⟩, ⟨S32x96, spreadAt t idx s 5⟩, ⟨S32x96, spreadAt t idx s 6⟩, ⟨S32x96, spreadAt t idx s 7⟩,
     ⟨S32x96, spreadAt t idx s 8⟩]
    concatenates_S32x96_S32x96_S32x96_S32x96_S32x96_S32x96_S32x96_S32x96_S32x96_S288x96_d0)
    transposes_S288x96_p1_0_S96x288) bitsLt_bf16_f32) shapeCasts_S96x288_S96x288

/-- Pieces `f (n-1), …, f 0`, the last stored first. -/
def stack {α : Type} : (n : ℕ) → (Fin n → α) → List α
  | 0, _ => []
  | n + 1, f => f (Fin.last n) :: stack n (fun i => f i.castSucc)

/-- Columns `1792 e + 128 g …` of the activation. -/
def colsAt (e : Fin 2) (g : Fin 14) : Rect S96x3584 := Rect.unit ![0, 1792 * e.val + 128 * g.val] S96x128.size (by revert e g; decide)

/-- The permuted activation's blocks as they are stored. -/
def permuted (p : Fin 2 → Fin 14 → Vec F S96x128 .bf16) : List (View.Piece (Elt F) S14x96x256 .bf16) :=
  stack 14 fun g => ⟨xpAt g, Gen.k0_pay24 (Gen.k0_pay6 Gen.k0_pay5) (p 0 g) (p 1 g)⟩

/-- Column block `(w, h)` of the hidden activation at step `i`. -/
def hiddenAt (i : grid0.Coords) (hc : k0_cond2 i = 1#1) (w h : Fin 2) : Rect S96x14336 :=
  Rect.unit (k0_off1 i (BitVec.ofNat 32 (7168 * w.val)) (BitVec.ofNat 32 (256 * h.val))) S96x256.size (k0_off1_inb i hc w h)

/-- The block stored there: `x` the permuted activation, `l` the expanded low-rank values, `s`, `z` the scales and
zero points and `v` the codes of the four quarters, `a` the adapters of the two halves. -/
def blockOf (m36 m37 : Memref sig .tc .vmem S4x14x2x512 .bf16) (x : Fin 14 → Vec F S1x96x256 .bf16) (l : Fin 2 → Vec F S96x288 .bf16)
    (s : Fin 4 → Vec F S28x512 .bf16) (z : Fin 4 → Vec F S28x512 .i8) (v : Fin 4 → Fin 2 → Fin 14 → Vec F S128x256 .i8)
    (a : Fin 2 → Fin 2 → Fin 2 → Fin 9 → Vec F S1x1x32x256 .bf16) (w h : Fin 2) : FVec F S96x256 .bf16 :=
  hidden
    (proj (pairRows (slabHalf m36 (fun q => Gen.k0_pay50 (s q)) ⟨w.val, by omega⟩ h)) (pairRows (slabHalf m37 (fun q => Gen.k0_pay51 (z q)) ⟨w.val, by omega⟩ h))
      x (v ⟨w.val, by omega⟩ h) (l 0) (a w 0 h))
    (proj (pairRows (slabHalf m36 (fun q => Gen.k0_pay50 (s q)) ⟨2 + w.val, by omega⟩ h)) (pairRows (slabHalf m37 (fun q => Gen.k0_pay51 (z q)) ⟨2 + w.val, by omega⟩ h))
      x (v ⟨2 + w.val, by omega⟩ h) (l 1) (a w 1 h))

/-- The four blocks a step stores, the last stored first. -/
def blocks (i : grid0.Coords) (hc : k0_cond2 i = 1#1) (f : Fin 2 → Fin 2 → FVec F S96x256 .bf16) : List (View.Piece (Elt F) S96x14336 .bf16) :=
  [⟨hiddenAt i hc 1 1, f 1 1⟩, ⟨hiddenAt i hc 0 1, f 0 1⟩, ⟨hiddenAt i hc 1 0, f 1 0⟩, ⟨hiddenAt i hc 0 0, f 0 0⟩]

end Cert.KernelIdeal.Hand

end
-- ==== Proof.PrologueAt.lean ====
module

public import proofs.«01_k».proof.Proof.Prologue
public import proofs.«01_k».proof.Proof.GateUpAt
public import Idealize.ShloMosaic.Lib.ValueLayout

/-! The first step's values, entry by entry, over the reals. -/

@[expose] public section

noncomputable section

namespace Cert.KernelIdeal.Hand

open Idealize.ShloMosaic Idealize.ShloMosaic.TcCoe Idealize.ShloMosaic.Pointwise Cert.KernelIdeal Facts₀ Facts

/-- Whether row `b`'s index names adapter `n`, as a number. -/
def one (v : BitVec 32) (n : ℕ) : EReal := if v = BitVec.ofNat 32 n then 1 else 0

theorem uses_apply (idx : IVec S1x96 32) (n : ℕ) (b : Fin 96) :
    uses idx n (ix2 (0 : Fin 1) b) = if idx (ix2 (0 : Fin 1) b) = BitVec.ofNat 32 n then 1#1 else 0#1 := by
  pointwise [uses]
  unfold IntOp.cmpi
  by_cases h : idx (ix2 (0 : Fin 1) b) = BitVec.ofNat 32 n
  · simp [h]
  · simp only [if_neg h, beq_eq_false_iff_ne.mpr h]; rfl

theorem one_mul_eq (v : BitVec 32) (n : ℕ) (y : EReal) : one v n * y = if v = BitVec.ofNat 32 n then y else 0 := by
  unfold one; split_ifs <;> simp

/-- A chain of selections by index is the sum over the indices of the one-hot entry times the value. -/
theorem pick_apply {s : Shape} (x : s.Idx) (v : BitVec 32) (m : ℕ) (hm : m ≤ 9) (c : Fin m → IVec s 1) (f : Fin m → FVec Ideal s .f32)
    (hc : ∀ n : Fin m, c n x = if v = BitVec.ofNat 32 n.val then 1#1 else 0#1) :
    pick m c f x = ∑ n : Fin m, one v n.val * (f n x : EReal) := by
  induction m with
  | zero =>
    simp only [Finset.univ_eq_empty, Finset.sum_empty]
    exact Ideal.ofBits_zero_f32
  | succ m ih =>
    rw [Fin.sum_univ_castSucc]
    have h1 := ih (by omega) (fun i => c i.castSucc) (fun i => f i.castSucc) (fun n => hc n.castSucc)
    have hl := hc (Fin.last m)
    show (if c (Fin.last m) x = 1#1 then f (Fin.last m) x else pick m (fun i => c i.castSucc) (fun i => f i.castSucc) x) = _
    rw [hl, h1]
    by_cases h : v = BitVec.ofNat 32 m
    · simp only [Fin.val_last, h, if_true]
      rw [Finset.sum_eq_zero, zero_add]
      · simp [one]
      · intro n _
        have : ¬ BitVec.ofNat 32 m = BitVec.ofNat 32 n.val := by
          intro e
          have := congrArg BitVec.toNat e
          simp only [BitVec.toNat_ofNat] at this
          have := n.isLt
          omega
        rw [one_mul_eq]; simp [this]
    · simp [h, one]

theorem lowRank_apply (idx : IVec S1x96 32) (all : FVec Ideal S576x96 .f32) (sc : Fin 9 → Elt Ideal .f32) (r : Fin 64) (b : Fin 96) :
    lowRank idx all sc (ix2 r b)
      = (∑ n : Fin 9, one (idx (ix2 (0 : Fin 1) b)) n.val * (all (ix2 (⟨64 * n.val + r.val, by omega⟩ : Fin 576) b) : EReal))
        * (∑ n : Fin 9, one (idx (ix2 (0 : Fin 1) b)) n.val * (sc n : EReal)) := by
  have h1 := pick_apply (ix2 r b) (idx (ix2 (0 : Fin 1) b)) 9 le_rfl
    (fun n => broadcastTo S64x96 (shapeCast S1x96 (uses idx n.val) shapeCasts_S1x96_S1x96) broadcasts_S1x96_S64x96)
    (fun n => extractStridedSlice S64x96 ![64 * n.val, 0] all (rowSlice n))
    (fun n => by
      refine Eq.trans ?_ (uses_apply idx n.val b)
      pointwise []
      )
  have h2 := pick_apply (ix2 (0 : Fin 1) b) (idx (ix2 (0 : Fin 1) b)) 9 le_rfl (fun n => uses idx n.val)
    (fun n => (broadcast S1x96 (sc n) : FVec Ideal S1x96 .f32)) (fun n => uses_apply idx n.val b)
  have e : (broadcastTo S64x96 (pick (F := Ideal) 9 (fun n => uses idx n.val) (fun n => broadcast S1x96 (sc n))) broadcasts_S1x96_S64x96) (ix2 r b)
      = pick (F := Ideal) 9 (fun n => uses idx n.val) (fun n => broadcast S1x96 (sc n)) (ix2 (0 : Fin 1) b) := by pointwise []
  refine congrArg₂ (fun p q : EReal => p * q) (h1.trans ?_) (e.trans h2)
  refine Finset.sum_congr rfl fun n _ => congrArg _ ?_
  pointwise []

theorem all_apply (a : Vec Ideal S576x3584 .bf16) (x : Vec Ideal S96x3584 .bf16) (m : Fin 576) (b : Fin 96) :
    Gen.k0_pay25 a x (ix2 m b) = (∑ k : Fin 3584, (a (ix2 m k) : EReal) * x (ix2 b k) : EReal) := by
  pointwise [Gen.k0_pay25]

theorem out_apply (s : FVec Ideal S64x96 .f32) (b : Fin 96) (r : Fin 64) : Gen.k0_pay33 s (ix2 b r) = s (ix2 r b) := by
  pointwise [Gen.k0_pay33, Gen.k0_pay32]

theorem spreadAt_apply (t : Fin 2) (idx : IVec S1x96 32) (s : FVec Ideal S64x96 .f32) (n : ℕ) (r : Fin 32) (b : Fin 96) :
    spreadAt t idx s n (ix2 r b) = one (idx (ix2 (0 : Fin 1) b)) n * (s (ix2 (⟨32 * t.val + r.val, by omega⟩ : Fin 64) b) : EReal) := by
  have h := uses_apply idx n b
  rw [one_mul_eq]
  pointwise [spreadAt]
  rw [h]
  by_cases e : idx (ix2 (0 : Fin 1) b) = BitVec.ofNat 32 n
  · rw [if_pos e, if_pos e]; rfl
  · rw [if_neg e, if_neg e]; rfl

theorem spread_at (t : Fin 2) (idx : IVec S1x96 32) (s : FVec Ideal S64x96 .f32) (b : Fin 96) (k n : ℕ) (hk' : k % 32 < 32) (r : ℕ) (hr : r < 32)
    (hn : k / 32 = n) (e : r = k % 32) :
    spreadAt t idx s n (ix2 (⟨r, hr⟩ : Fin 32) b)
      = one (idx (ix2 (0 : Fin 1) b)) (k / 32) * (s (ix2 (⟨32 * t.val + k % 32, by omega⟩ : Fin 64) b) : EReal) := by
  subst e; subst hn
  exact spreadAt_apply t idx s _ _ b

theorem expandAt_apply (t : Fin 2) (idx : IVec S1x96 32) (s : FVec Ideal S64x96 .f32) (b : Fin 96) (k : Fin 288) :
    expandAt t idx s (ix2 b k)
      = one (idx (ix2 (0 : Fin 1) b)) (k.val / 32) * (s (ix2 (⟨32 * t.val + k.val % 32, by omega⟩ : Fin 64) b) : EReal) := by
  pointwise [expandAt]
  have hk := k.isLt
  by_cases h0 : k.val < 32
  · rw [dif_pos h0]; exact spread_at t idx s b k.val 0 (by omega) _ _ (by omega) (by omega)
  rw [dif_neg h0]
  by_cases h1 : k.val - 32 < 32
  · rw [dif_pos h1]; exact spread_at t idx s b k.val 1 (by omega) _ _ (by omega) (by omega)
  rw [dif_neg h1]
  by_cases h2 : k.val - 32 - 32 < 32
  · rw [dif_pos h2]; exact spread_at t idx s b k.val 2 (by omega) _ _ (by omega) (by omega)
  rw [dif_neg h2]
  by_cases h3 : k.val - 32 - 32 - 32 < 32
  · rw [dif_pos h3]; exact spread_at t idx s b k.val 3 (by omega) _ _ (by omega) (by omega)
  rw [dif_neg h3]
  by_cases h4 : k.val - 32 - 32 - 32 - 32 < 32
  · rw [dif_pos h4]; exact spread_at t idx s b k.val 4 (by omega) _ _ (by omega) (by omega)
  rw [dif_neg h4]
  by_cases h5 : k.val - 32 - 32 - 32 - 32 - 32 < 32
  · rw [dif_pos h5]; exact spread_at t idx s b k.val 5 (by omega) _ _ (by omega) (by omega)
  rw [dif_neg h5]
  by_cases h6 : k.val - 32 - 32 - 32 - 32 - 32 - 32 < 32
  · rw [dif_pos h6]; exact spread_at t idx s b k.val 6 (by omega) _ _ (by omega) (by omega)
  rw [dif_neg h6]
  by_cases h7 : k.val - 32 - 32 - 32 - 32 - 32 - 32 - 32 < 32
  · rw [dif_pos h7]; exact spread_at t idx s b k.val 7 (by omega) _ _ (by omega) (by omega)
  rw [dif_neg h7]
  exact spread_at t idx s b k.val 8 (by omega) _ _ (by omega) (by omega)

end Cert.KernelIdeal.Hand

end
-- ==== Proof.Spec.lean ====
module

public import proofs.«01_k».proof.Proof.GateUpAt
public import proofs.«01_k».proof.Proof.PrologueAt

/-! What the gate-up half computes, as sums over the entries of its arrays. -/

@[expose] public section

noncomputable section

namespace Cert.KernelIdeal.Hand

open Idealize.ShloMosaic Idealize.ShloMosaic.TcCoe Idealize.ShloMosaic.Tactic Cert.KernelIdeal Facts₀ Facts

variable (X : Vec Ideal S96x3584 .bf16) (I : Vec Ideal S1x96 .i32) (SC : Vec Ideal S9 .f32) (G : Vec Ideal S576x3584 .bf16)
  (A2 : Vec Ideal S1792x28672 .i8) (A3 : Vec Ideal S28x28672 .bf16) (A4 : Vec Ideal S28x28672 .i8) (A9 : Vec Ideal S9x2x32x14336 .bf16)

/-- Low-rank value `r` of row `b`: its own adapter's product, scaled. -/
def lowOf (b : Fin 96) (r : Fin 64) : EReal :=
  (∑ n : Fin 9, one (I (ix2 (0 : Fin 1) b)) n.val * ∑ k : Fin 3584, (G (ix2 (⟨64 * n.val + r.val, by omega⟩ : Fin 576) k) : EReal) * X (ix2 b k))
    * ∑ n : Fin 9, one (I (ix2 (0 : Fin 1) b)) n.val * (SC (ix1 n) : EReal)

/-- The permuted activation: even places from the low half, odd ones from the high half. -/
def xpOf (g : Fin 14) (b : Fin 96) (k : Fin 256) : EReal :=
  if k.val % 2 < 1 then X (ix2 b (⟨128 * g.val + k.val / 2, by omega⟩ : Fin 3584)) else X (ix2 b (⟨1792 + 128 * g.val + k.val / 2, by omega⟩ : Fin 3584))

/-- The low-rank values of projection `t`, each row's in its own adapter's columns. -/
def wideOf (t : Fin 2) (b : Fin 96) (k : Fin 288) : EReal :=
  one (I (ix2 (0 : Fin 1) b)) (k.val / 32) * lowOf X I SC G b ⟨32 * t.val + k.val % 32, by omega⟩

/-- Projection `t` (gate, up) of row `b` at column `f`. -/
def projOf (t : Fin 2) (b : Fin 96) (f : Fin 14336) : EReal :=
  (∑ g : Fin 14, ∑ k : Fin 256, xpOf X g b k
    * ((codeOf (k.val % 2) (A2 (ix2 (⟨128 * g.val + k.val / 2, by omega⟩ : Fin 1792) (⟨t.val * 14336 + f.val, by omega⟩ : Fin 28672)))
        - FloatOps.sitofp (F := Ideal) .bf16 ((A4 (ix2 (⟨14 * (k.val % 2) + g.val, by omega⟩ : Fin 28) (⟨t.val * 14336 + f.val, by omega⟩ : Fin 28672))).setWidth 32))
      * A3 (ix2 (⟨14 * (k.val % 2) + g.val, by omega⟩ : Fin 28) (⟨t.val * 14336 + f.val, by omega⟩ : Fin 28672))))
  + ∑ k : Fin 288, wideOf X I SC G t b k * A9 (ix4 (⟨k.val / 32, by omega⟩ : Fin 9) t (⟨k.val % 32, by omega⟩ : Fin 32) f)

/-- The hidden activation of row `b` at column `f`. -/
def hiddenOf (b : Fin 96) (f : Fin 14336) : EReal :=
  projOf X I SC G A2 A3 A4 A9 0 b f * Ideal.logistic (projOf X I SC G A2 A3 A4 A9 0 b f) * projOf X I SC G A2 A3 A4 A9 1 b f

theorem hidden_apply (g u : FVec Ideal S96x256 .f32) (b : Fin 96) (j : Fin 256) :
    hidden g u (ix2 b j) = (g (ix2 b j) : EReal) * Ideal.logistic (g (ix2 b j)) * u (ix2 b j) := by
  pointwise [hidden]

end Cert.KernelIdeal.Hand

end
-- ==== Proof.Blocks.lean ====
module

public import proofs.«01_k».proof.Proof.IdealKit
public import proofs.«01_k».proof.Proof.Spec
public import Idealize.ShloMosaic.Lib.Pipeline.ValueKit
public import Idealize.ShloMosaic.Lib.Claim

/-! What each window's block holds: a block of columns of the array it reads. -/

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

theorem idxWhole : ∀ t : Fin cfg0.N, win0_0.index t = ![0, 0] ∧ win0_1.index t = ![0, 0] ∧ win0_2.index t = ![0] ∧ win0_19.index t = ![0, 0] :=
  (by decide +kernel : ∀ t : Fin grid0.N, _)

theorem idxCols : ∀ t : Fin cfg0.N, t.val < 14 →
    win0_3.index t = ![0, t.val] ∧ win0_4.index t = ![0, 14 + t.val] ∧ win0_5.index t = ![0, 28 + t.val] ∧ win0_6.index t = ![0, 42 + t.val]
    ∧ win0_7.index t = ![0, t.val] ∧ win0_8.index t = ![0, 14 + t.val] ∧ win0_9.index t = ![0, 28 + t.val] ∧ win0_10.index t = ![0, 42 + t.val]
    ∧ win0_11.index t = ![0, t.val] ∧ win0_12.index t = ![0, 14 + t.val] ∧ win0_13.index t = ![0, 28 + t.val] ∧ win0_14.index t = ![0, 42 + t.val]
    ∧ win0_15.index t = ![0, 0, 0, t.val] ∧ win0_16.index t = ![0, 0, 0, 14 + t.val] :=
  (by decide +kernel : ∀ t : Fin grid0.N, _)

theorem iblk0 (t : Fin cfg0.N) : iblk m c 0 t = V m c main_v0 := by blk_ext! [iblk, idxWhole t]
theorem iblk1 (t : Fin cfg0.N) : iblk m c 1 t = V m c main_v1 := by blk_ext! [iblk, idxWhole t]
theorem iblk2 (t : Fin cfg0.N) : iblk m c 2 t = V m c main_arg12 := by blk_ext! [iblk, idxWhole t]
theorem iblk19 (t : Fin cfg0.N) : iblk m c 19 t = V m c main_v3 := by blk_ext! [iblk, idxWhole t]

/-- Every block of the gate-up codes holds its columns of the code array. -/
theorem codeBlock (t : Fin cfg0.N) (ht : t.val < 14) (k : Fin 1792) (j : Fin 512) : (q : Fin 4) →
    (![iblk m c 3 t, iblk m c 4 t, iblk m c 5 t, iblk m c 6 t] : Fin 4 → Vec F S1792x512 .i8) q (ix2 k j)
      = V m c main_arg2 (ix2 k (⟨7168 * q.val + 512 * t.val + j.val, by omega⟩ : Fin 28672))
  | 0 => by change iblk m c 3 t _ = _; blk_ext [iblk, idxCols t ht]
  | 1 => by change iblk m c 4 t _ = _; blk_ext [iblk, idxCols t ht]
  | 2 => by change iblk m c 5 t _ = _; blk_ext [iblk, idxCols t ht]
  | 3 => by change iblk m c 6 t _ = _; blk_ext [iblk, idxCols t ht]

/-- Every block of the gate-up scales holds its columns of the scale array. -/
theorem scaleBlock (t : Fin cfg0.N) (ht : t.val < 14) (k : Fin 28) (j : Fin 512) : (q : Fin 4) →
    (![iblk m c 7 t, iblk m c 8 t, iblk m c 9 t, iblk m c 10 t] : Fin 4 → Vec F S28x512 .bf16) q (ix2 k j)
      = V m c main_arg3 (ix2 k (⟨7168 * q.val + 512 * t.val + j.val, by omega⟩ : Fin 28672))
  | 0 => by change iblk m c 7 t _ = _; blk_ext [iblk, idxCols t ht]
  | 1 => by change iblk m c 8 t _ = _; blk_ext [iblk, idxCols t ht]
  | 2 => by change iblk m c 9 t _ = _; blk_ext [iblk, idxCols t ht]
  | 3 => by change iblk m c 10 t _ = _; blk_ext [iblk, idxCols t ht]

/-- Every block of the gate-up zero points holds its columns of the zero-point array. -/
theorem zeroBlock (t : Fin cfg0.N) (ht : t.val < 14) (k : Fin 28) (j : Fin 512) : (q : Fin 4) →
    (![iblk m c 11 t, iblk m c 12 t, iblk m c 13 t, iblk m c 14 t] : Fin 4 → Vec F S28x512 .i8) q (ix2 k j)
      = V m c main_arg4 (ix2 k (⟨7168 * q.val + 512 * t.val + j.val, by omega⟩ : Fin 28672))
  | 0 => by change iblk m c 11 t _ = _; blk_ext [iblk, idxCols t ht]
  | 1 => by change iblk m c 12 t _ = _; blk_ext [iblk, idxCols t ht]
  | 2 => by change iblk m c 13 t _ = _; blk_ext [iblk, idxCols t ht]
  | 3 => by change iblk m c 14 t _ = _; blk_ext [iblk, idxCols t ht]

/-- Both blocks of the adapters' expansion rows hold their columns of that array. -/
theorem adapterBlock (t : Fin cfg0.N) (ht : t.val < 14) (n : Fin 9) (p : Fin 2) (r : Fin 32) (j : Fin 512) : (w : Fin 2) →
    (![iblk m c 15 t, iblk m c 16 t] : Fin 2 → Vec F S9x2x32x512 .bf16) w (ix4 n p r j)
      = V m c main_arg9 (ix4 n p r (⟨7168 * w.val + 512 * t.val + j.val, by omega⟩ : Fin 14336))
  | 0 => by change iblk m c 15 t _ = _; blk_ext [iblk, idxCols t ht]
  | 1 => by change iblk m c 16 t _ = _; blk_ext [iblk, idxCols t ht]

end Cert.KernelIdeal.Hand

end
-- ==== Proof.States.lean ====
module

public import proofs.«01_k».proof.Proof.Blocks
public import Idealize.ShloMosaic.Lib.Pipeline.DatRel

/-! What the buffers hold from one grid point to the next. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The permuted activation. -/
def XpOK (c : Dev nD) (d : Vec Ideal S14x96x256 .bf16) : Prop := ∀ g b k, d (ix3 g b k) = xpOf (V m c main_v0) g b k

/-- Projection `p`'s expanded low-rank values. -/
def WideOK (c : Dev nD) (p : Fin 2) (d : Vec Ideal S96x288 .bf16) : Prop :=
  ∀ b k, d (ix2 b k) = wideOf (V m c main_v0) (V m c main_v1) (V m c main_arg12) (V m c main_v3) p b k

/-- The low-rank values. -/
def LowOK (c : Dev nD) (d : Vec Ideal S96x64 .bf16) : Prop :=
  ∀ b r, d (ix2 b r) = lowOf (V m c main_v0) (V m c main_v1) (V m c main_arg12) (V m c main_v3) b r

/-- Entry `(b, k)` of the hidden activation. -/
def hidAt (c : Dev nD) (b : Fin 96) (k : Fin 14336) : EReal :=
  hiddenOf (V m c main_v0) (V m c main_v1) (V m c main_arg12) (V m c main_v3) (V m c main_arg2) (V m c main_arg3) (V m c main_arg4) (V m c main_arg9) b k

/-- The columns that the first `n` steps store of the hidden activation. -/
def HidOK (c : Dev nD) (n : ℕ) (d : Vec Ideal S96x14336 .bf16) : Prop :=
  ∀ (b : Fin 96) (k : Fin 14336), k.val % 7168 / 512 < n → d (ix2 b k) = hidAt m c b k

/-- What step `n` does to the hidden activation: its own columns while `n < 14`, nothing afterwards. -/
def HidStep (c : Dev nD) (n : ℕ) (d d' : Vec Ideal S96x14336 .bf16) : Prop :=
  ∀ (b : Fin 96) (k : Fin 14336), d' (ix2 b k) = if k.val % 7168 / 512 = n ∧ n < 14 then hidAt m c b k else d (ix2 b k)

/-- What step `n` does to the low-rank values: all of them at the first, nothing afterwards. -/
def LowStep (c : Dev nD) (n : ℕ) (d d' : Vec Ideal S96x64 .bf16) : Prop :=
  if n = 0 then LowOK m c d' else d' = d

theorem hid_next (c : Dev nD) (n : ℕ) (d d' : Vec Ideal S96x14336 .bf16) (h : 1 ≤ n → HidOK m c n d) (s : HidStep m c n d d') :
    HidOK m c (n + 1) d' := fun b k hk => by
  rw [s b k]
  have hk' := k.isLt
  split_ifs with e
  · rfl
  · exact h (by omega) b k (by omega)

theorem low_next (c : Dev nD) (n : ℕ) (d d' : Vec Ideal S96x64 .bf16) (h : 1 ≤ n → LowOK m c d) (s : LowStep m c n d d') : LowOK m c d' := by
  unfold LowStep at s
  split_ifs at s with e
  · exact s
  · rw [s]; exact h (by omega)

theorem coord_val : ∀ t : Fin cfg0.N, (grid0.coords t 0).val = t.val := (by decide +kernel : ∀ t : Fin grid0.N, (grid0.coords t 0).val = t.val)

end Cert.KernelIdeal.Hand

end
-- ==== Proof.IdealRun.RunB.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The run of the kernel's body at points one to thirteen: the gate and up half. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9000000 in
set_option sl_exec.squeezeSlice true in
/-- What the body leaves at points one to thirteen: the gate and up half, with the proof that it runs: the buffers it does not touch keep their contents, each buffer it writes ends with the pieces the run finds. -/
def runB (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : ¬ k0_cond1 i = 1#1) (hc1 : k0_cond2 i = 1#1) (hc2 : ¬ k0_cond3 i = 1#1) (hc3 : ¬ k0_cond4 i = 1#1)
    (x4 : Vec F S1792x512 .i8) (x5 : Vec F S1792x512 .i8) (x6 : Vec F S1792x512 .i8) (x7 : Vec F S1792x512 .i8) (x8 : Vec F S28x512 .bf16) (x9 : Vec F S28x512 .bf16) (x10 : Vec F S28x512 .bf16) (x11 : Vec F S28x512 .bf16) (x12 : Vec F S28x512 .i8) (x13 : Vec F S28x512 .i8) (x14 : Vec F S28x512 .i8) (x15 : Vec F S28x512 .i8) (x16 : Vec F S9x2x32x512 .bf16) (x17 : Vec F S9x2x32x512 .bf16) (x18 : Vec F S9x32x512 .bf16) (x19 : Vec F S9x32x512 .bf16) (x29 : Vec F S14x96x256 .bf16) (x31 : Vec F S256x256 .bf16) (x32 : Vec F S96x288 .bf16) (x33 : Vec F S96x288 .bf16) (x35 : Vec F S288x96 .f32) :
    Σ' (L26 : List (View.Piece (Elt F) S96x14336 .bf16)), Σ' (L30 : List (View.Piece (Elt F) S56x96x256 .bf16)), { L35 : List (View.Piece (Elt F) S288x96 .f32) //
      ∀ (f1 : arg1.view.ty.Contents (Elt F)) (f2 : arg2.view.ty.Contents (Elt F)) (f3 : arg3.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (x26 : Vec F S96x14336 .bf16) (f27 : arg27.view.ty.Contents (Elt F)) (f28 : arg28.view.ty.Contents (Elt F)) (x30 : Vec F S56x96x256 .bf16) (f34 : arg34.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} (harg4.unread x4)) ∗ (View.loc (c : Thread nD τ) arg5.view ↦[arg5.view.set]{fullShare} (harg5.unread x5)) ∗ (View.loc (c : Thread nD τ) arg6.view ↦[arg6.view.set]{fullShare} (harg6.unread x6)) ∗ (View.loc (c : Thread nD τ) arg7.view ↦[arg7.view.set]{fullShare} (harg7.unread x7)) ∗ (View.loc (c : Thread nD τ) arg8.view ↦[arg8.view.set]{fullShare} (harg8.unread x8)) ∗ (View.loc (c : Thread nD τ) arg9.view ↦[arg9.view.set]{fullShare} (harg9.unread x9)) ∗ (View.loc (c : Thread nD τ) arg10.view ↦[arg10.view.set]{fullShare} (harg10.unread x10)) ∗ (View.loc (c : Thread nD τ) arg11.view ↦[arg11.view.set]{fullShare} (harg11.unread x11)) ∗ (View.loc (c : Thread nD τ) arg12.view ↦[arg12.view.set]{fullShare} (harg12.unread x12)) ∗ (View.loc (c : Thread nD τ) arg13.view ↦[arg13.view.set]{fullShare} (harg13.unread x13)) ∗ (View.loc (c : Thread nD τ) arg14.view ↦[arg14.view.set]{fullShare} (harg14.unread x14)) ∗ (View.loc (c : Thread nD τ) arg15.view ↦[arg15.view.set]{fullShare} (harg15.unread x15)) ∗ (View.loc (c : Thread nD τ) arg16.view ↦[arg16.view.set]{fullShare} (harg16.unread x16)) ∗ (View.loc (c : Thread nD τ) arg17.view ↦[arg17.view.set]{fullShare} (harg17.unread x17)) ∗ (View.loc (c : Thread nD τ) arg18.view ↦[arg18.view.set]{fullShare} (harg18.unread x18)) ∗ (View.loc (c : Thread nD τ) arg19.view ↦[arg19.view.set]{fullShare} (harg19.unread x19)) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} (harg26.unread x26)) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} (harg29.unread x29)) ∗ (View.loc (c : Thread nD τ) arg30.view ↦[arg30.view.set]{fullShare} (harg30.unread x30)) ∗ (View.loc (c : Thread nD τ) arg31.view ↦[arg31.view.set]{fullShare} (harg31.unread x31)) ∗ (View.loc (c : Thread nD τ) arg32.view ↦[arg32.view.set]{fullShare} (harg32.unread x32)) ∗ (View.loc (c : Thread nD τ) arg33.view ↦[arg33.view.set]{fullShare} (harg33.unread x33)) ∗ (View.loc (c : Thread nD τ) arg34.view ↦[arg34.view.set]{fullShare} f34) ∗ (View.loc (c : Thread nD τ) arg35.view ↦[arg35.view.set]{fullShare} (harg35.unread x35)) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} (harg4.unread x4)) ∗ (View.loc (c : Thread nD τ) arg5.view ↦[arg5.view.set]{fullShare} (harg5.unread x5)) ∗ (View.loc (c : Thread nD τ) arg6.view ↦[arg6.view.set]{fullShare} (harg6.unread x6)) ∗ (View.loc (c : Thread nD τ) arg7.view ↦[arg7.view.set]{fullShare} (harg7.unread x7)) ∗ (View.loc (c : Thread nD τ) arg8.view ↦[arg8.view.set]{fullShare} (harg8.unread x8)) ∗ (View.loc (c : Thread nD τ) arg9.view ↦[arg9.view.set]{fullShare} (harg9.unread x9)) ∗ (View.loc (c : Thread nD τ) arg10.view ↦[arg10.view.set]{fullShare} (harg10.unread x10)) ∗ (View.loc (c : Thread nD τ) arg11.view ↦[arg11.view.set]{fullShare} (harg11.unread x11)) ∗ (View.loc (c : Thread nD τ) arg12.view ↦[arg12.view.set]{fullShare} (harg12.unread x12)) ∗ (View.loc (c : Thread nD τ) arg13.view ↦[arg13.view.set]{fullShare} (harg13.unread x13)) ∗ (View.loc (c : Thread nD τ) arg14.view ↦[arg14.view.set]{fullShare} (harg14.unread x14)) ∗ (View.loc (c : Thread nD τ) arg15.view ↦[arg15.view.set]{fullShare} (harg15.unread x15)) ∗ (View.loc (c : Thread nD τ) arg16.view ↦[arg16.view.set]{fullShare} (harg16.unread x16)) ∗ (View.loc (c : Thread nD τ) arg17.view ↦[arg17.view.set]{fullShare} (harg17.unread x17)) ∗ (View.loc (c : Thread nD τ) arg18.view ↦[arg18.view.set]{fullShare} (harg18.unread x18)) ∗ (View.loc (c : Thread nD τ) arg19.view ↦[arg19.view.set]{fullShare} (harg19.unread x19)) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} (arg26.view.writes (Elt F) (harg26.unread x26) L26)) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} (harg29.unread x29)) ∗ (View.loc (c : Thread nD τ) arg30.view ↦[arg30.view.set]{fullShare} (arg30.view.writes (Elt F) (harg30.unread x30) L30)) ∗ (View.loc (c : Thread nD τ) arg31.view ↦[arg31.view.set]{fullShare} (harg31.unread x31)) ∗ (View.loc (c : Thread nD τ) arg32.view ↦[arg32.view.set]{fullShare} (harg32.unread x32)) ∗ (View.loc (c : Thread nD τ) arg33.view ↦[arg33.view.set]{fullShare} (harg33.unread x33)) ∗ (View.loc (c : Thread nD τ) arg34.view ↦[arg34.view.set]{fullShare} f34) ∗ (View.loc (c : Thread nD τ) arg35.view ↦[arg35.view.set]{fullShare} (arg35.view.writes (Elt F) (harg35.unread x35) L35)) ∗ (∃ f, (View.loc (c : Thread nD τ) arg36.view ↦[arg36.view.set]{fullShare} f)) ∗ (∃ f, (View.loc (c : Thread nD τ) arg37.view ↦[arg37.view.set]{fullShare} f)) ∗ (View.loc (c : Thread nD τ) arg38.view ↦[arg38.view.set]{fullShare} f38) ∗ (View.loc (c : Thread nD τ) arg39.view ↦[arg39.view.set]{fullShare} f39)) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, fun f1 f2 f3 f20 f21 f22 f23 f24 f25 x26 f27 f28 x30 f34 f36 f37 f38 f39 E K => ?run⟩
  case run =>
    simp only [cc0_swiglu_int4_lora_eq_skeleton]; unfold cc0_swiglu_int4_lora_skel
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
    sl_exec (disch := first | sl_exact hc0 | sl_exact hc1 | sl_exact hc2 | sl_exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexists _; iexact H36
    isplitl [H37]; · iexists _; iexact H37
    isplitl [H38]; · iexact H38
    iexact H39

end Cert.KernelIdeal.Gen

end
-- ==== Proof.IdealRun.RunA.lean ====
module

public import proofs.«01_k».proof.Proof.IdealRun.RunB

/-! The run of the kernel's body at the first point: the prologue, then the gate and up half. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9000000 in
set_option sl_exec.squeezeSlice true in
/-- What the body leaves at the first point: the prologue, then the gate and up half, with the proof that it runs: the buffers it does not touch keep their contents, each buffer it writes ends with the pieces the run finds. -/
def runA (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : k0_cond1 i = 1#1) (hc1 : k0_cond2 i = 1#1) (hc2 : ¬ k0_cond3 i = 1#1) (hc3 : ¬ k0_cond4 i = 1#1)
    (x1 : Vec F S96x3584 .bf16) (x2 : Vec F S1x96 .i32) (x3 : Vec F S9 .f32) (x4 : Vec F S1792x512 .i8) (x5 : Vec F S1792x512 .i8) (x6 : Vec F S1792x512 .i8) (x7 : Vec F S1792x512 .i8) (x8 : Vec F S28x512 .bf16) (x9 : Vec F S28x512 .bf16) (x10 : Vec F S28x512 .bf16) (x11 : Vec F S28x512 .bf16) (x12 : Vec F S28x512 .i8) (x13 : Vec F S28x512 .i8) (x14 : Vec F S28x512 .i8) (x15 : Vec F S28x512 .i8) (x16 : Vec F S9x2x32x512 .bf16) (x17 : Vec F S9x2x32x512 .bf16) (x18 : Vec F S9x32x512 .bf16) (x19 : Vec F S9x32x512 .bf16) (x20 : Vec F S576x3584 .bf16) :
    Σ' (L26 : List (View.Piece (Elt F) S96x14336 .bf16)), Σ' (L27 : List (View.Piece (Elt F) S96x64 .bf16)), Σ' (L29 : List (View.Piece (Elt F) S14x96x256 .bf16)), Σ' (L30 : List (View.Piece (Elt F) S56x96x256 .bf16)), Σ' (L31 : List (View.Piece (Elt F) S256x256 .bf16)), Σ' (L32 : List (View.Piece (Elt F) S96x288 .bf16)), Σ' (L33 : List (View.Piece (Elt F) S96x288 .bf16)), { L35 : List (View.Piece (Elt F) S288x96 .f32) //
      ∀ (f21 : arg21.view.ty.Contents (Elt F)) (f22 : arg22.view.ty.Contents (Elt F)) (f23 : arg23.view.ty.Contents (Elt F)) (f24 : arg24.view.ty.Contents (Elt F)) (f25 : arg25.view.ty.Contents (Elt F)) (x26 : Vec F S96x14336 .bf16) (f27 : arg27.view.ty.Contents (Elt F)) (f28 : arg28.view.ty.Contents (Elt F)) (f29 : arg29.view.ty.Contents (Elt F)) (x30 : Vec F S56x96x256 .bf16) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} (harg1.unread x1)) ∗ (View.loc (c : Thread nD τ) arg2.view ↦[arg2.view.set]{fullShare} (harg2.unread x2)) ∗ (View.loc (c : Thread nD τ) arg3.view ↦[arg3.view.set]{fullShare} (harg3.unread x3)) ∗ (View.loc (c : Thread nD τ) arg4.view ↦[arg4.view.set]{fullShare} (harg4.unread x4)) ∗ (View.loc (c : Thread nD τ) arg5.view ↦[arg5.view.set]{fullShare} (harg5.unread x5)) ∗ (View.loc (c : Thread nD τ) arg6.view ↦[arg6.view.set]{fullShare} (harg6.unread x6)) ∗ (View.loc (c : Thread nD τ) arg7.view ↦[arg7.view.set]{fullShare} (harg7.unread x7)) ∗ (View.loc (c : Thread nD τ) arg8.view ↦[arg8.view.set]{fullShare} (harg8.unread x8)) ∗ (View.loc (c : Thread nD τ) arg9.view ↦[arg9.view.set]{fullShare} (harg9.unread x9)) ∗ (View.loc (c : Thread nD τ) arg10.view ↦[arg10.view.set]{fullShare} (harg10.unread x10)) ∗ (View.loc (c : Thread nD τ) arg11.view ↦[arg11.view.set]{fullShare} (harg11.unread x11)) ∗ (View.loc (c : Thread nD τ) arg12.view ↦[arg12.view.set]{fullShare} (harg12.unread x12)) ∗ (View.loc (c : Thread nD τ) arg13.view ↦[arg13.view.set]{fullShare} (harg13.unread x13)) ∗ (View.loc (c : Thread nD τ) arg14.view ↦[arg14.view.set]{fullShare} (harg14.unread x14)) ∗ (View.loc (c : Thread nD τ) arg15.view ↦[arg15.view.set]{fullShare} (harg15.unread x15)) ∗ (View.loc (c : Thread nD τ) arg16.view ↦[arg16.view.set]{fullShare} (harg16.unread x16)) ∗ (View.loc (c : Thread nD τ) arg17.view ↦[arg17.view.set]{fullShare} (harg17.unread x17)) ∗ (View.loc (c : Thread nD τ) arg18.view ↦[arg18.view.set]{fullShare} (harg18.unread x18)) ∗ (View.loc (c : Thread nD τ) arg19.view ↦[arg19.view.set]{fullShare} (harg19.unread x19)) ∗ (View.loc (c : Thread nD τ) arg20.view ↦[arg20.view.set]{fullShare} (harg20.unread x20)) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} (harg26.unread x26)) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} (harg30.unread x30)) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} (harg1.unread x1)) ∗ (View.loc (c : Thread nD τ) arg2.view ↦[arg2.view.set]{fullShare} (harg2.unread x2)) ∗ (View.loc (c : Thread nD τ) arg3.view ↦[arg3.view.set]{fullShare} (harg3.unread x3)) ∗ (View.loc (c : Thread nD τ) arg4.view ↦[arg4.view.set]{fullShare} (harg4.unread x4)) ∗ (View.loc (c : Thread nD τ) arg5.view ↦[arg5.view.set]{fullShare} (harg5.unread x5)) ∗ (View.loc (c : Thread nD τ) arg6.view ↦[arg6.view.set]{fullShare} (harg6.unread x6)) ∗ (View.loc (c : Thread nD τ) arg7.view ↦[arg7.view.set]{fullShare} (harg7.unread x7)) ∗ (View.loc (c : Thread nD τ) arg8.view ↦[arg8.view.set]{fullShare} (harg8.unread x8)) ∗ (View.loc (c : Thread nD τ) arg9.view ↦[arg9.view.set]{fullShare} (harg9.unread x9)) ∗ (View.loc (c : Thread nD τ) arg10.view ↦[arg10.view.set]{fullShare} (harg10.unread x10)) ∗ (View.loc (c : Thread nD τ) arg11.view ↦[arg11.view.set]{fullShare} (harg11.unread x11)) ∗ (View.loc (c : Thread nD τ) arg12.view ↦[arg12.view.set]{fullShare} (harg12.unread x12)) ∗ (View.loc (c : Thread nD τ) arg13.view ↦[arg13.view.set]{fullShare} (harg13.unread x13)) ∗ (View.loc (c : Thread nD τ) arg14.view ↦[arg14.view.set]{fullShare} (harg14.unread x14)) ∗ (View.loc (c : Thread nD τ) arg15.view ↦[arg15.view.set]{fullShare} (harg15.unread x15)) ∗ (View.loc (c : Thread nD τ) arg16.view ↦[arg16.view.set]{fullShare} (harg16.unread x16)) ∗ (View.loc (c : Thread nD τ) arg17.view ↦[arg17.view.set]{fullShare} (harg17.unread x17)) ∗ (View.loc (c : Thread nD τ) arg18.view ↦[arg18.view.set]{fullShare} (harg18.unread x18)) ∗ (View.loc (c : Thread nD τ) arg19.view ↦[arg19.view.set]{fullShare} (harg19.unread x19)) ∗ (View.loc (c : Thread nD τ) arg20.view ↦[arg20.view.set]{fullShare} (harg20.unread x20)) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} (arg26.view.writes (Elt F) (harg26.unread x26) L26)) ∗ (View.loc (c : Thread nD τ) arg27.view ↦[arg27.view.set]{fullShare} (arg27.view.writes (Elt F) f27 L27)) ∗ (View.loc (c : Thread nD τ) arg28.view ↦[arg28.view.set]{fullShare} f28) ∗ (View.loc (c : Thread nD τ) arg29.view ↦[arg29.view.set]{fullShare} (arg29.view.writes (Elt F) f29 L29)) ∗ (View.loc (c : Thread nD τ) arg30.view ↦[arg30.view.set]{fullShare} (arg30.view.writes (Elt F) (harg30.unread x30) L30)) ∗ (View.loc (c : Thread nD τ) arg31.view ↦[arg31.view.set]{fullShare} (arg31.view.writes (Elt F) f31 L31)) ∗ (View.loc (c : Thread nD τ) arg32.view ↦[arg32.view.set]{fullShare} (arg32.view.writes (Elt F) f32 L32)) ∗ (View.loc (c : Thread nD τ) arg33.view ↦[arg33.view.set]{fullShare} (arg33.view.writes (Elt F) f33 L33)) ∗ (View.loc (c : Thread nD τ) arg34.view ↦[arg34.view.set]{fullShare} f34) ∗ (View.loc (c : Thread nD τ) arg35.view ↦[arg35.view.set]{fullShare} (arg35.view.writes (Elt F) f35 L35)) ∗ (∃ f, (View.loc (c : Thread nD τ) arg36.view ↦[arg36.view.set]{fullShare} f)) ∗ (∃ f, (View.loc (c : Thread nD τ) arg37.view ↦[arg37.view.set]{fullShare} f)) ∗ (View.loc (c : Thread nD τ) arg38.view ↦[arg38.view.set]{fullShare} f38) ∗ (View.loc (c : Thread nD τ) arg39.view ↦[arg39.view.set]{fullShare} f39)) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, ?_, ?_, ?_, ?_, ?_, fun f21 f22 f23 f24 f25 x26 f27 f28 f29 x30 f31 f32 f33 f34 f35 f36 f37 f38 f39 E K => ?run⟩
  case run =>
    simp only [cc0_swiglu_int4_lora_eq_skeleton]; unfold cc0_swiglu_int4_lora_skel
    iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
    sl_exec (disch := first | sl_exact hc0 | sl_exact hc1 | sl_exact hc2 | sl_exact hc3)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexists _; iexact H36
    isplitl [H37]; · iexists _; iexact H37
    isplitl [H38]; · iexact H38
    iexact H39

end Cert.KernelIdeal.Gen

end
-- ==== Proof.ViewA.lean ====
module

public import proofs.«01_k».proof.Proof.Prologue
public import proofs.«01_k».proof.Proof.IdealRun.RunA

/-! What the first step stores, as the plain functions of the blocks it loads. -/

@[expose] public section

set_option maxRecDepth 16384

noncomputable section

namespace Cert.KernelIdeal.Hand

open Idealize.ShloMosaic Idealize.ShloMosaic.TcCoe Cert.KernelIdeal Facts₀ Facts

variable {F : FTy → Type} [FloatOps F]

variable (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : k0_cond1 i = 1#1) (hc1 : k0_cond2 i = 1#1) (hc2 : ¬ k0_cond3 i = 1#1) (hc3 : ¬ k0_cond4 i = 1#1)
    (x1 : Vec F S96x3584 .bf16) (x2 : Vec F S1x96 .i32) (x3 : Vec F S9 .f32) (x4 : Vec F S1792x512 .i8) (x5 : Vec F S1792x512 .i8) (x6 : Vec F S1792x512 .i8) (x7 : Vec F S1792x512 .i8) (x8 : Vec F S28x512 .bf16) (x9 : Vec F S28x512 .bf16) (x10 : Vec F S28x512 .bf16) (x11 : Vec F S28x512 .bf16) (x12 : Vec F S28x512 .i8) (x13 : Vec F S28x512 .i8) (x14 : Vec F S28x512 .i8) (x15 : Vec F S28x512 .i8) (x16 : Vec F S9x2x32x512 .bf16) (x17 : Vec F S9x2x32x512 .bf16) (x18 : Vec F S9x32x512 .bf16) (x19 : Vec F S9x32x512 .bf16) (x20 : Vec F S576x3584 .bf16)

/-- The scale block of quarter `q`. -/
def scalesA : Fin 4 → Vec F S28x512 .bf16 := ![View.readAt (Elt F) arg8.view (Rect.unit ![0, 0] S28x512.size inb_S28x512_S28x512_0_0).toLoadRect (harg8.unread x8), View.readAt (Elt F) arg9.view (Rect.unit ![0, 0] S28x512.size inb_S28x512_S28x512_0_0).toLoadRect (harg9.unread x9), View.readAt (Elt F) arg10.view (Rect.unit ![0, 0] S28x512.size inb_S28x512_S28x512_0_0).toLoadRect (harg10.unread x10), View.readAt (Elt F) arg11.view (Rect.unit ![0, 0] S28x512.size inb_S28x512_S28x512_0_0).toLoadRect (harg11.unread x11)]
/-- The zero-point block of quarter `q`. -/
def zerosA : Fin 4 → Vec F S28x512 .i8 := ![View.readAt (Elt F) arg12.view (Rect.unit ![0, 0] S28x512.size inb_S28x512_S28x512_0_0).toLoadRect (harg12.unread x12), View.readAt (Elt F) arg13.view (Rect.unit ![0, 0] S28x512.size inb_S28x512_S28x512_0_0).toLoadRect (harg13.unread x13), View.readAt (Elt F) arg14.view (Rect.unit ![0, 0] S28x512.size inb_S28x512_S28x512_0_0).toLoadRect (harg14.unread x14), View.readAt (Elt F) arg15.view (Rect.unit ![0, 0] S28x512.size inb_S28x512_S28x512_0_0).toLoadRect (harg15.unread x15)]
/-- The codes of quarter `q`, half `h`, group pair `g`. -/
def codesA (q : Fin 4) (h : Fin 2) (g : Fin 14) : Vec F S128x256 .i8 :=
  (![View.readAt (Elt F) arg4.view (codeAt h g).toLoadRect (harg4.unread x4), View.readAt (Elt F) arg5.view (codeAt h g).toLoadRect (harg5.unread x5), View.readAt (Elt F) arg6.view (codeAt h g).toLoadRect (harg6.unread x6), View.readAt (Elt F) arg7.view (codeAt h g).toLoadRect (harg7.unread x7)] : Fin 4 → Vec F S128x256 .i8) q
/-- Adapter `n`'s rows for half `w`, projection `t`, column half `h`. -/
def adaptersA (w t h : Fin 2) (n : Fin 9) : Vec F S1x1x32x256 .bf16 :=
  (![View.readAt (Elt F) arg16.view (adapterAt t h n).toLoadRect (harg16.unread x16), View.readAt (Elt F) arg17.view (adapterAt t h n).toLoadRect (harg17.unread x17)] : Fin 2 → Vec F S1x1x32x256 .bf16) w

/-- The adapter index row. -/
def idxA : IVec S1x96 32 := Gen.k0_pay1 (F := F) (View.readAt (Elt F) arg2.view (Rect.unit ![0, 0] S1x96.size inb_S1x96_S1x96_0_0).toLoadRect (harg2.unread x2))
/-- The selected low-rank projection. -/
def lowA : FVec F S64x96 .f32 :=
  lowRank (idxA arg2 harg2 x2) (Gen.k0_pay25 (View.readAt (Elt F) arg20.view (Rect.unit ![0, 0] S576x3584.size inb_S576x3584_S576x3584_0_0).toLoadRect (harg20.unread x20)) (View.readAt (Elt F) arg1.view (Rect.unit ![0, 0] S96x3584.size inb_S96x3584_S96x3584_0_0).toLoadRect (harg1.unread x1)))
    (fun n => View.readAt (Elt F) arg3.view (Rect.unit (s := S9) ![n.val] S1.size (by revert n; decide)).toLoadRect (harg3.unread x3) (Shape.Idx.first (show 0 < S1.numel by decide)))
/-- The permuted activation's pieces. -/
def xpA : List (View.Piece (Elt F) S14x96x256 .bf16) := permuted fun e g => View.readAt (Elt F) arg1.view (colsAt e g).toLoadRect (harg1.unread x1)

set_option maxHeartbeats 4000000 in
theorem runA_low : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.1 = [⟨Rect.unit ![0, 0] S96x64.size inb_S96x64_S96x64_0_0, Gen.k0_pay33 (lowA arg1 harg1 arg2 harg2 arg3 harg3 arg20 harg20 x1 x2 x3 x20)⟩] := rfl

set_option maxHeartbeats 4000000 in
theorem runA_xp : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.1 = (xpA arg1 harg1 x1) := rfl

set_option maxHeartbeats 4000000 in
theorem runA_perm : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.2.2.1 = [⟨Rect.unit ![0, 0] S256x256.size inb_S256x256_S256x256_0_0, Gen.k0_pay7 Gen.k0_pay5⟩] := rfl

set_option maxHeartbeats 4000000 in
theorem runA_mg : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.2.2.2.1 = [⟨Rect.unit ![0, 0] S96x288.size inb_S96x288_S96x288_0_0, expandAt 0 (idxA arg2 harg2 x2) (lowA arg1 harg1 arg2 harg2 arg3 harg3 arg20 harg20 x1 x2 x3 x20)⟩] := rfl

set_option maxHeartbeats 4000000 in
theorem runA_mu : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.2.2.2.2.1 = [⟨Rect.unit ![0, 0] S96x288.size inb_S96x288_S96x288_0_0, expandAt 1 (idxA arg2 harg2 x2) (lowA arg1 harg1 arg2 harg2 arg3 harg3 arg20 harg20 x1 x2 x3 x20)⟩] := rfl

theorem runA_r_38 : (Gen.runA.sl.r_38 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 0 0) := rfl

theorem runA_r_39 : (Gen.runA.sl.r_39 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 0 0) := rfl

theorem runA_r_73 : (Gen.runA.sl.r_73 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 2 0) := rfl

theorem runA_r_74 : (Gen.runA.sl.r_74 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 2 0) := rfl

theorem runA_r_101 : (Gen.runA.sl.r_101 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 1 0) := rfl

theorem runA_r_102 : (Gen.runA.sl.r_102 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 1 0) := rfl

theorem runA_r_129 : (Gen.runA.sl.r_129 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 3 0) := rfl

theorem runA_r_130 : (Gen.runA.sl.r_130 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 3 0) := rfl

theorem runA_r_165 : (Gen.runA.sl.r_165 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 0 1) := rfl

theorem runA_r_166 : (Gen.runA.sl.r_166 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 0 1) := rfl

theorem runA_r_195 : (Gen.runA.sl.r_195 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 2 1) := rfl

theorem runA_r_196 : (Gen.runA.sl.r_196 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 2 1) := rfl

theorem runA_r_226 : (Gen.runA.sl.r_226 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 1 1) := rfl

theorem runA_r_227 : (Gen.runA.sl.r_227 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 1 1) := rfl

theorem runA_r_256 : (Gen.runA.sl.r_256 arg8 harg8 arg9 harg9 arg10 harg10 arg11 harg11 arg36 x8 x9 x10 x11) = pairRows (slabHalf arg36 (fun q => Gen.k0_pay50 ((scalesA arg8 harg8 arg9 harg9 arg10 harg10 arg11 harg11 x8 x9 x10 x11) q)) 3 1) := rfl

theorem runA_r_257 : (Gen.runA.sl.r_257 arg12 harg12 arg13 harg13 arg14 harg14 arg15 harg15 arg37 x12 x13 x14 x15) = pairRows (slabHalf arg37 (fun q => Gen.k0_pay51 ((zerosA arg12 harg12 arg13 harg13 arg14 harg14 arg15 harg15 x12 x13 x14 x15) q)) 3 1) := rfl

set_option maxHeartbeats 4000000 in
theorem runA_raw : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).1 = [⟨Rect.unit (k0_off1 i 7168#32 256#32) S96x256.size (k0_off1_inb i hc1 1 1), (hidden (proj (Gen.runA.sl.r_226 arg8 harg8 arg9 harg9 arg10 harg10 arg11 harg11 arg36 x8 x9 x10 x11) (Gen.runA.sl.r_227 arg12 harg12 arg13 harg13 arg14 harg14 arg15 harg15 arg37 x12 x13 x14 x15) (fun g => arg29.view.readCov (Val := Elt F) (xpA arg1 harg1 x1) (xpAt g).toLoadRect) (fun g => View.readAt (Elt F) arg5.view (codeAt 1 g).toLoadRect (harg5.unread x5)) (arg32.view.readCov (Val := Elt F) [⟨Rect.unit ![0, 0] S96x288.size inb_S96x288_S96x288_0_0, expandAt 0 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg17.view (adapterAt 0 1 n).toLoadRect (harg17.unread x17))) (proj (Gen.runA.sl.r_256 arg8 harg8 arg9 harg9 arg10 harg10 arg11 harg11 arg36 x8 x9 x10 x11) (Gen.runA.sl.r_257 arg12 harg12 arg13 harg13 arg14 harg14 arg15 harg15 arg37 x12 x13 x14 x15) (fun g => arg29.view.readCov (Val := Elt F) (xpA arg1 harg1 x1) (xpAt g).toLoadRect) (fun g => View.readAt (Elt F) arg7.view (codeAt 1 g).toLoadRect (harg7.unread x7)) (arg33.view.readCov (Val := Elt F) [⟨Rect.unit ![0, 0] S96x288.size inb_S96x288_S96x288_0_0, expandAt 1 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg17.view (adapterAt 1 1 n).toLoadRect (harg17.unread x17))))⟩, ⟨Rect.unit (k0_off1 i 0#32 256#32) S96x256.size (k0_off1_inb i hc1 0 1), (hidden (proj (Gen.runA.sl.r_165 arg8 harg8 arg9 harg9 arg10 harg10 arg11 harg11 arg36 x8 x9 x10 x11) (Gen.runA.sl.r_166 arg12 harg12 arg13 harg13 arg14 harg14 arg15 harg15 arg37 x12 x13 x14 x15) (fun g => arg29.view.readCov (Val := Elt F) (xpA arg1 harg1 x1) (xpAt g).toLoadRect) (fun g => View.readAt (Elt F) arg4.view (codeAt 1 g).toLoadRect (harg4.unread x4)) (arg32.view.readCov (Val := Elt F) [⟨Rect.unit ![0, 0] S96x288.size inb_S96x288_S96x288_0_0, expandAt 0 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg16.view (adapterAt 0 1 n).toLoadRect (harg16.unread x16))) (proj (Gen.runA.sl.r_195 arg8 harg8 arg9 harg9 arg10 harg10 arg11 harg11 arg36 x8 x9 x10 x11) (Gen.runA.sl.r_196 arg12 harg12 arg13 harg13 arg14 harg14 arg15 harg15 arg37 x12 x13 x14 x15) (fun g => arg29.view.readCov (Val := Elt F) (xpA arg1 harg1 x1) (xpAt g).toLoadRect) (fun g => View.readAt (Elt F) arg6.view (codeAt 1 g).toLoadRect (harg6.unread x6)) (arg33.view.readCov (Val := Elt F) [⟨Rect.unit ![0, 0] S96x288.size inb_S96x288_S96x288_0_0, expandAt 1 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg16.view (adapterAt 1 1 n).toLoadRect (harg16.unread x16))))⟩, ⟨Rect.unit (k0_off1 i 7168#32 0#32) S96x256.size (k0_off1_inb i hc1 1 0), (hidden (proj (Gen.runA.sl.r_101 arg8 harg8 arg9 harg9 arg10 harg10 arg11 harg11 arg36 x8 x9 x10 x11) (Gen.runA.sl.r_102 arg12 harg12 arg13 harg13 arg14 harg14 arg15 harg15 arg37 x12 x13 x14 x15) (fun g => arg29.view.readCov (Val := Elt F) (xpA arg1 harg1 x1) (xpAt g).toLoadRect) (fun g => View.readAt (Elt F) arg5.view (codeAt 0 g).toLoadRect (harg5.unread x5)) (arg32.view.readCov (Val := Elt F) [⟨Rect.unit ![0, 0] S96x288.size inb_S96x288_S96x288_0_0, expandAt 0 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg17.view (adapterAt 0 0 n).toLoadRect (harg17.unread x17))) (proj (Gen.runA.sl.r_129 arg8 harg8 arg9 harg9 arg10 harg10 arg11 harg11 arg36 x8 x9 x10 x11) (Gen.runA.sl.r_130 arg12 harg12 arg13 harg13 arg14 harg14 arg15 harg15 arg37 x12 x13 x14 x15) (fun g => arg29.view.readCov (Val := Elt F) (xpA arg1 harg1 x1) (xpAt g).toLoadRect) (fun g => View.readAt (Elt F) arg7.view (codeAt 0 g).toLoadRect (harg7.unread x7)) (arg33.view.readCov (Val := Elt F) [⟨Rect.unit ![0, 0] S96x288.size inb_S96x288_S96x288_0_0, expandAt 1 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg17.view (adapterAt 1 0 n).toLoadRect (harg17.unread x17))))⟩, ⟨Rect.unit (k0_off1 i 0#32 0#32) S96x256.size (k0_off1_inb i hc1 0 0), (hidden (proj (Gen.runA.sl.r_38 arg8 harg8 arg9 harg9 arg10 harg10 arg11 harg11 arg36 x8 x9 x10 x11) (Gen.runA.sl.r_39 arg12 harg12 arg13 harg13 arg14 harg14 arg15 harg15 arg37 x12 x13 x14 x15) (fun g => arg29.view.readCov (Val := Elt F) (xpA arg1 harg1 x1) (xpAt g).toLoadRect) (fun g => View.readAt (Elt F) arg4.view (codeAt 0 g).toLoadRect (harg4.unread x4)) (arg32.view.readCov (Val := Elt F) [⟨Rect.unit ![0, 0] S96x288.size inb_S96x288_S96x288_0_0, expandAt 0 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg16.view (adapterAt 0 0 n).toLoadRect (harg16.unread x16))) (proj (Gen.runA.sl.r_73 arg8 harg8 arg9 harg9 arg10 harg10 arg11 harg11 arg36 x8 x9 x10 x11) (Gen.runA.sl.r_74 arg12 harg12 arg13 harg13 arg14 harg14 arg15 harg15 arg37 x12 x13 x14 x15) (fun g => arg29.view.readCov (Val := Elt F) (xpA arg1 harg1 x1) (xpAt g).toLoadRect) (fun g => View.readAt (Elt F) arg6.view (codeAt 0 g).toLoadRect (harg6.unread x6)) (arg33.view.readCov (Val := Elt F) [⟨Rect.unit ![0, 0] S96x288.size inb_S96x288_S96x288_0_0, expandAt 1 (idxA arg2 harg2 x2) (lowA arg1 harg1 arg2 harg2 arg3 harg3 arg20 harg20 x1 x2 x3 x20)⟩] (Rect.unit ![0, 0] S96x288.size inb_S96x288_S96x288_0_0).toLoadRect) (fun n => View.readAt (Elt F) arg16.view (adapterAt 1 0 n).toLoadRect (harg16.unread x16))))⟩] := rfl

set_option maxHeartbeats 4000000 in
theorem runA_hidden : (Gen.runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).1 = blocks i hc1 (blockOf arg36 arg37 (fun g => arg29.view.readCov (Val := Elt F) (xpA arg1 harg1 x1) (xpAt g).toLoadRect) ![arg32.view.readCov (Val := Elt F) [⟨Rect.unit ![0, 0] S96x288.size inb_S96x288_S96x288_0_0, expandAt 0 (idxA arg2 harg2 x2) (lowA arg1 harg1 arg2 harg2 arg3 harg3 arg20 harg20 x1 x2 x3 x20)⟩] (Rect.unit ![0, 0] S96x288.size inb_S96x288_S96x288_0_0).toLoadRect, arg33.view.readCov (Val := Elt F) [⟨Rect.unit ![0, 0] S96x288.size inb_S96x288_S96x288_0_0, expandAt 1 (idxA arg2 harg2 x2) (lowA arg1 harg1 arg2 harg2 arg3 harg3 arg20 harg20 x1 x2 x3 x20)⟩] (Rect.unit ![0, 0] S96x288.size inb_S96x288_S96x288_0_0).toLoadRect]
    (scalesA arg8 harg8 arg9 harg9 arg10 harg10 arg11 harg11 x8 x9 x10 x11) (zerosA arg12 harg12 arg13 harg13 arg14 harg14 arg15 harg15 x12 x13 x14 x15) (codesA arg4 harg4 arg5 harg5 arg6 harg6 arg7 harg7 x4 x5 x6 x7) (adaptersA arg16 harg16 arg17 harg17 x16 x17)) := by
  rw [runA_raw, runA_r_38, runA_r_39, runA_r_73, runA_r_74, runA_r_165, runA_r_166, runA_r_195, runA_r_196, runA_r_101, runA_r_102, runA_r_129, runA_r_130, runA_r_226, runA_r_227, runA_r_256, runA_r_257]
  rfl

end Cert.KernelIdeal.Hand

end
-- ==== Proof.BlockAt.lean ====
module

public import proofs.«01_k».proof.Proof.Spec
public import Idealize.ShloMosaic.Lib.WholeRead
public import Idealize.ShloMosaic.Lib.WritesUnit

/-! One stored block of the hidden activation, entry by entry. -/

@[expose] public section

set_option maxRecDepth 16384

noncomputable section

namespace Cert.KernelIdeal.Hand

open Idealize.ShloMosaic Idealize.ShloMosaic.TcCoe Idealize.ShloMosaic.Tactic Cert.KernelIdeal Facts₀ Facts

variable {F : FTy → Type} [FloatOps F]

theorem readWhole {sig : RefSig} {sp : _} {s : Shape} {e : EltTy} (a : Memref sig .tc sp s e) (ha : a.IsWhole) (B : LoadRect s) (x : Vec F s e) (y : B.shape.Idx) :
    View.readAt (Elt F) a.view B (ha.unread x) y = x (B.idx y) := ha.readAt_unread x B y

variable (X : Vec Ideal S96x3584 .bf16) (I : Vec Ideal S1x96 .i32) (SC : Vec Ideal S9 .f32) (G : Vec Ideal S576x3584 .bf16)
  (A2 : Vec Ideal S1792x28672 .i8) (A3 : Vec Ideal S28x28672 .bf16) (A4 : Vec Ideal S28x28672 .i8) (A9 : Vec Ideal S9x2x32x14336 .bf16)

/-- Column `j` of block `(w, h)` of step `t`. -/
def colOf (t : ℕ) (ht : t < 14) (w h : Fin 2) (j : Fin 256) : Fin 14336 := ⟨7168 * w.val + 512 * t + 256 * h.val + j.val, by omega⟩

theorem pair_at (raw : Vec Ideal S14x2x256 .bf16) (g : Fin 14) (k : ℕ) (j : Fin 256) (hk : 2 * g.val + k % 2 < 28) :
    pairRows raw (ix2 (⟨2 * g.val + k % 2, hk⟩ : Fin 28) j) = raw (ix3 g (⟨k % 2, by omega⟩ : Fin 2) j) :=
  pairRows_apply raw g ⟨k % 2, by omega⟩ j

/-- A projection's block, from the entries of what it is computed from. -/
theorem projBlock (m36 m37 : Memref sig .tc .vmem S4x14x2x512 .bf16) (x : Fin 14 → Vec Ideal S1x96x256 .bf16) (l : Vec Ideal S96x288 .bf16)
    (s : Fin 4 → Vec Ideal S28x512 .bf16) (z : Fin 4 → Vec Ideal S28x512 .i8) (v : Fin 14 → Vec Ideal S128x256 .i8)
    (a : Fin 9 → Vec Ideal S1x1x32x256 .bf16) (t : ℕ) (ht : t < 14) (w h p : Fin 2) (q : Fin 4) (hq : q.val = 2 * p.val + w.val)
    (hx : ∀ g b k, x g (ix3 (0 : Fin 1) b k) = xpOf X g b k)
    (hl : ∀ b k, l (ix2 b k) = wideOf X I SC G p b k)
    (hs : ∀ (k : Fin 28) (j : Fin 512), s q (ix2 k j) = A3 (ix2 k (⟨7168 * q.val + 512 * t + j.val, by omega⟩ : Fin 28672)))
    (hz : ∀ (k : Fin 28) (j : Fin 512), z q (ix2 k j) = A4 (ix2 k (⟨7168 * q.val + 512 * t + j.val, by omega⟩ : Fin 28672)))
    (hv : ∀ (g : Fin 14) (r : Fin 128) (j : Fin 256), v g (ix2 r j)
      = A2 (ix2 (⟨128 * g.val + r.val, by omega⟩ : Fin 1792) (⟨7168 * q.val + 512 * t + (256 * h.val + j.val), by omega⟩ : Fin 28672)))
    (ha : ∀ (n : Fin 9) (r : Fin 32) (j : Fin 256), a n (ix4 (0 : Fin 1) (0 : Fin 1) r j) = A9 (ix4 n p r (colOf t ht w h j)))
    (b : Fin 96) (j : Fin 256) :
    proj (pairRows (slabHalf m36 (fun q => Gen.k0_pay50 (s q)) q h)) (pairRows (slabHalf m37 (fun q => Gen.k0_pay51 (z q)) q h)) x v l a (ix2 b j)
      = projOf X I SC G A2 A3 A4 A9 p b (colOf t ht w h j) := by
  rw [proj_apply]
  unfold projOf
  have hcol : 7168 * q.val + 512 * t + (256 * h.val + j.val) = p.val * 14336 + (colOf t ht w h j).val := by
    simp only [colOf]; omega
  refine congrArg₂ (· + ·) ?_ ?_
  · refine Finset.sum_congr rfl fun g _ => Finset.sum_congr rfl fun k _ => ?_
    rw [hx, pair_at, pair_at, slabHalf_apply, slabHalf_apply, slabScale_apply, slabZero_apply, hs, hz, hv]
    simp only [hcol]
  · refine Finset.sum_congr rfl fun k _ => ?_
    rw [hl, ha]

theorem blockOf_apply (m36 m37 : Memref sig .tc .vmem S4x14x2x512 .bf16) (x : Fin 14 → Vec Ideal S1x96x256 .bf16) (l : Fin 2 → Vec Ideal S96x288 .bf16)
    (s : Fin 4 → Vec Ideal S28x512 .bf16) (z : Fin 4 → Vec Ideal S28x512 .i8) (v : Fin 4 → Fin 2 → Fin 14 → Vec Ideal S128x256 .i8)
    (a : Fin 2 → Fin 2 → Fin 2 → Fin 9 → Vec Ideal S1x1x32x256 .bf16) (t : ℕ) (ht : t < 14)
    (hx : ∀ g b k, x g (ix3 (0 : Fin 1) b k) = xpOf X g b k)
    (hl : ∀ p b k, l p (ix2 b k) = wideOf X I SC G p b k)
    (hs : ∀ (k : Fin 28) (j : Fin 512) (q : Fin 4), s q (ix2 k j) = A3 (ix2 k (⟨7168 * q.val + 512 * t + j.val, by omega⟩ : Fin 28672)))
    (hz : ∀ (k : Fin 28) (j : Fin 512) (q : Fin 4), z q (ix2 k j) = A4 (ix2 k (⟨7168 * q.val + 512 * t + j.val, by omega⟩ : Fin 28672)))
    (hv : ∀ (q : Fin 4) (h : Fin 2) (g : Fin 14) (r : Fin 128) (j : Fin 256), v q h g (ix2 r j)
      = A2 (ix2 (⟨128 * g.val + r.val, by omega⟩ : Fin 1792) (⟨7168 * q.val + 512 * t + (256 * h.val + j.val), by omega⟩ : Fin 28672)))
    (ha : ∀ (w p h : Fin 2) (n : Fin 9) (r : Fin 32) (j : Fin 256), a w p h n (ix4 (0 : Fin 1) (0 : Fin 1) r j) = A9 (ix4 n p r (colOf t ht w h j)))
    (w h : Fin 2) (b : Fin 96) (j : Fin 256) :
    blockOf m36 m37 x l s z v a w h (ix2 b j) = hiddenOf X I SC G A2 A3 A4 A9 b (colOf t ht w h j) := by
  unfold blockOf
  rw [hidden_apply,
    projBlock X I SC G A2 A3 A4 A9 m36 m37 x (l 0) s z _ _ t ht w h 0 ⟨w.val, by omega⟩ (by simp) hx (hl 0) (fun k j => hs k j _) (fun k j => hz k j _) (hv _ h) (ha w 0 h),
    projBlock X I SC G A2 A3 A4 A9 m36 m37 x (l 1) s z _ _ t ht w h 1 ⟨2 + w.val, by omega⟩ (by simp) hx (hl 1) (fun k j => hs k j _) (fun k j => hz k j _) (hv _ h) (ha w 1 h)]
  rfl

section Writes

variable {sp : Space} (v : View sig .tc sp S96x14336 .bf16) (f : v.ty.Contents (Elt Ideal)) (i : grid0.Coords) (hc : k0_cond2 i = 1#1)
  (ht : (i 0).val < 14) (blk : Fin 2 → Fin 2 → FVec Ideal S96x256 .bf16) (b : Fin 96)

theorem blocks_hit (w h : Fin 2) (L : List (View.Piece (Elt Ideal) S96x14336 .bf16)) (u : FVec Ideal S96x256 .bf16) (j : Fin 256) :
    v.read (Elt Ideal) (v.writes (Elt Ideal) f (⟨hiddenAt i hc w h, u⟩ :: L)) (ix2 b (colOf (i 0).val ht w h j)) = u (ix2 b j) :=
  View.read_writes_cons_unit_of_mem v f _ u L _ (ix2 b j) (Gen.k0_off1_eq i w h) fun a => by
    match a with
    | ⟨0, _⟩ => show b.val = 0 + b.val; omega
    | ⟨1, _⟩ => show 7168 * w.val + 512 * (i 0).val + 256 * h.val + j.val = 7168 * w.val + 512 * (i 0).val + 256 * h.val + j.val; rfl

theorem blocks_miss (w h : Fin 2) (L : List (View.Piece (Elt Ideal) S96x14336 .bf16)) (u : FVec Ideal S96x256 .bf16) (k : Fin 14336)
    (hk : k.val < 7168 * w.val + 512 * (i 0).val + 256 * h.val ∨ 7168 * w.val + 512 * (i 0).val + 256 * h.val + 256 ≤ k.val) :
    v.read (Elt Ideal) (v.writes (Elt Ideal) f (⟨hiddenAt i hc w h, u⟩ :: L)) (ix2 b k) = v.read (Elt Ideal) (v.writes (Elt Ideal) f L) (ix2 b k) :=
  View.read_writes_cons_unit_of_not_mem v f _ u L _ (Gen.k0_off1_eq i w h) (1 : Fin 2) hk

/-- Inside its own columns a step's four stores leave their blocks. -/
theorem blocks_in (j : Fin 256) : (w h : Fin 2) →
    v.read (Elt Ideal) (v.writes (Elt Ideal) f (blocks i hc blk)) (ix2 b (colOf (i 0).val ht w h j)) = blk w h (ix2 b j)
  | 1, 1 => blocks_hit v f i hc ht b 1 1 _ _ j
  | 0, 1 => (blocks_miss v f i hc b 1 1 _ _ _ (by simp [colOf] <;> omega)).trans (blocks_hit v f i hc ht b 0 1 _ _ j)
  | 1, 0 => (blocks_miss v f i hc b 1 1 _ _ _ (by simp [colOf] <;> omega)).trans <|
      (blocks_miss v f i hc b 0 1 _ _ _ (by simp [colOf] <;> omega)).trans (blocks_hit v f i hc ht b 1 0 _ _ j)
  | 0, 0 => (blocks_miss v f i hc b 1 1 _ _ _ (by simp [colOf] <;> omega)).trans <|
      (blocks_miss v f i hc b 0 1 _ _ _ (by simp [colOf] <;> omega)).trans <|
      (blocks_miss v f i hc b 1 0 _ _ _ (by simp [colOf] <;> omega)).trans (blocks_hit v f i hc ht b 0 0 _ _ j)

/-- Outside them they change nothing. -/
theorem blocks_out (ht : (i 0).val < 14) (k : Fin 14336) (hk : k.val % 7168 / 512 ≠ (i 0).val) :
    v.read (Elt Ideal) (v.writes (Elt Ideal) f (blocks i hc blk)) (ix2 b k) = v.read (Elt Ideal) f (ix2 b k) :=
  have hk' := k.isLt
  (blocks_miss v f i hc b 1 1 _ _ _ (by simp; omega)).trans <| (blocks_miss v f i hc b 0 1 _ _ _ (by simp; omega)).trans <|
    (blocks_miss v f i hc b 1 0 _ _ _ (by simp; omega)).trans <| (blocks_miss v f i hc b 0 0 _ _ _ (by simp; omega))

/-- What a step's stores leave, entry by entry. -/
theorem blocks_read (H : Fin 96 → Fin 14336 → EReal) (hb : ∀ (w h : Fin 2) (j : Fin 256), blk w h (ix2 b j) = H b (colOf (i 0).val ht w h j)) (k : Fin 14336) :
    v.read (Elt Ideal) (v.writes (Elt Ideal) f (blocks i hc blk)) (ix2 b k)
      = if k.val % 7168 / 512 = (i 0).val then H b k else v.read (Elt Ideal) f (ix2 b k) := by
  have hk' := k.isLt
  split_ifs with hk
  · have e : k = colOf (i 0).val ht ⟨k.val / 7168, by omega⟩ ⟨k.val % 512 / 256, by omega⟩ ⟨k.val % 256, by omega⟩ := Fin.ext (by simp only [colOf]; omega)
    rw [e, blocks_in, hb]
  · exact blocks_out v f i hc blk b ht k hk

end Writes

/-- A store over a whole array leaves its value. -/
theorem whole_writes {s : Shape} {e : EltTy} {sp : Space} (v : View sig .tc sp s e) (f : v.ty.Contents (Elt Ideal))
    (off : Fin s.rank → ℕ) (inb : ∀ a, off a + s.size a ≤ s.size a) (u : Vec Ideal s e) (y : s.Idx) :
    v.read (Elt Ideal) (v.writes (Elt Ideal) f [⟨Rect.unit off s.size inb, u⟩]) y = u y :=
  View.read_writes_cons_unit_of_mem v f inb u [] y y (off' := off) rfl fun a => by have := inb a; omega

end Cert.KernelIdeal.Hand

end
-- ==== Proof.PermAt.lean ====
module

public import proofs.«01_k».proof.Proof.PrologueAt

/-! The permuted activation, entry by entry. -/

@[expose] public section

noncomputable section

namespace Cert.KernelIdeal.Hand

open Idealize.ShloMosaic Idealize.ShloMosaic.TcCoe Idealize.ShloMosaic.Pointwise Cert.KernelIdeal Facts₀ Facts

theorem perm_bit (r k : Fin 256) : Gen.k0_pay5 (ix2 r k) = if r.val = k.val / 2 + 128 * (k.val % 2) then 1#1 else 0#1 := by
  pointwise [Gen.k0_pay5]
  refine (congrArg (IntOp.cmpi .eq (BitVec.ofNat 32 r.val)) (?_ : _ = BitVec.ofNat 32 (k.val / 2 + 128 * (k.val % 2)))).trans ?_
  · clear r; revert k; decide +kernel
  · unfold IntOp.cmpi
    have hr := r.isLt
    have hk := k.isLt
    by_cases e : r.val = k.val / 2 + 128 * (k.val % 2)
    · simp [e]
    · have hne : ¬ BitVec.ofNat 32 r.val = BitVec.ofNat 32 (k.val / 2 + 128 * (k.val % 2)) := by
        intro h
        have := congrArg BitVec.toNat h
        simp only [BitVec.toNat_ofNat] at this
        omega
      simp only [if_neg e, beq_eq_false_iff_ne.mpr hne]; rfl

theorem perm_apply (r k : Fin 256) : (Gen.k0_pay6 (F := Ideal) Gen.k0_pay5 (ix2 r k) : EReal) = if r.val = k.val / 2 + 128 * (k.val % 2) then 1 else 0 := by
  have h := perm_bit r k
  pointwise [Gen.k0_pay6]
  rw [h]
  by_cases e : r.val = k.val / 2 + 128 * (k.val % 2)
  · rw [if_pos e, if_pos e]; rfl
  · rw [if_neg e, if_neg e]; rfl

theorem permuted_apply (p q : Vec Ideal S96x128 .bf16) (b : Fin 96) (k : Fin 256) :
    (Gen.k0_pay24 (F := Ideal) (Gen.k0_pay6 Gen.k0_pay5) p q (ix3 (0 : Fin 1) b k) : EReal)
      = if k.val % 2 < 1 then p (ix2 b (⟨k.val / 2, by omega⟩ : Fin 128)) else q (ix2 b (⟨k.val / 2, by omega⟩ : Fin 128)) := by
  have h := fun r => perm_apply r k
  generalize Gen.k0_pay6 (F := Ideal) Gen.k0_pay5 = m at h
  pointwise [Gen.k0_pay24]
  have h0 : ∀ x : Fin 128, m (ix2 (⟨x.val, by omega⟩ : Fin 256) k) = if x.val = k.val / 2 + 128 * (k.val % 2) then (1 : EReal) else 0 := fun x => h _
  have h1 : ∀ x : Fin 128, m (ix2 (⟨128 + x.val, by omega⟩ : Fin 256) k) = if 128 + x.val = k.val / 2 + 128 * (k.val % 2) then (1 : EReal) else 0 := fun x => h _
  simp only [h0, h1]
  have hk := k.isLt
  by_cases e : k.val % 2 < 1
  · have s2 : ∑ x : Fin 128, q (ix2 b x) * (if 128 + x.val = k.val / 2 + 128 * (k.val % 2) then (1 : EReal) else 0) = (0 : EReal) :=
      Finset.sum_eq_zero fun x _ => by rw [if_neg (by omega), mul_zero]
    have s1 : ∑ x : Fin 128, p (ix2 b x) * (if x.val = k.val / 2 + 128 * (k.val % 2) then (1 : EReal) else 0) = p (ix2 b (⟨k.val / 2, by omega⟩ : Fin 128)) := by
      refine (Finset.sum_eq_single (⟨k.val / 2, by omega⟩ : Fin 128) (fun x _ hx => ?_) (fun hx => absurd (Finset.mem_univ _) hx)).trans ?_
      · rw [if_neg, mul_zero]
        intro hx'
        exact hx (Fin.ext (by show x.val = k.val / 2; omega))
      · rw [if_pos (by show k.val / 2 = _; omega), mul_one]
    rw [if_pos e]
    exact (congrArg₂ (fun u v : EReal => u + v) s1 s2).trans (add_zero _)
  · have s1 : ∑ x : Fin 128, p (ix2 b x) * (if x.val = k.val / 2 + 128 * (k.val % 2) then (1 : EReal) else 0) = (0 : EReal) :=
      Finset.sum_eq_zero fun x _ => by rw [if_neg (by have := x.isLt; omega), mul_zero]
    have s2 : ∑ x : Fin 128, q (ix2 b x) * (if 128 + x.val = k.val / 2 + 128 * (k.val % 2) then (1 : EReal) else 0) = q (ix2 b (⟨k.val / 2, by omega⟩ : Fin 128)) := by
      refine (Finset.sum_eq_single (⟨k.val / 2, by omega⟩ : Fin 128) (fun x _ hx => ?_) (fun hx => absurd (Finset.mem_univ _) hx)).trans ?_
      · rw [if_neg, mul_zero]
        intro hx'
        exact hx (Fin.ext (by show x.val = k.val / 2; omega))
      · rw [if_pos (by show 128 + k.val / 2 = _; omega), mul_one]
    rw [if_neg e]
    exact (congrArg₂ (fun u v : EReal => u + v) s1 s2).trans (zero_add _)

theorem xpAt_not_mem {g g' : Fin 14} (h : g ≠ g') (x : (xpAt g).shape.Idx) : (xpAt g).emb x ∉ (xpAt g').set := by
  intro hm
  rw [xpAt, Rect.mem_set_unit] at hm
  have h0 := hm 0
  have hx : (x 0).val < 1 := (x 0).isLt
  have e : ((xpAt g).emb x 0).val = g.val + 1 * (x 0).val := rfl
  have l : (![g'.val, 0, 0] : Fin 3 → Nat) 0 = g'.val := rfl
  apply h; apply Fin.ext
  simp only [l] at h0
  have := h0.1
  have := h0.2
  change _ < g'.val + 1 at this
  omega

/-- In a stack of pieces over disjoint blocks each block reads its own piece. -/
theorem canon_stack {F : FTy → Type} [FloatOps F] {s : Shape} {e : EltTy} : (n : ℕ) → (f : Fin n → View.Piece (Elt F) s e) →
    (∀ i j, i ≠ j → ∀ x, (f i).1.emb x ∉ (f j).1.set) → ∀ (i : Fin n) x, View.canon (Val := Elt F) (stack n f) ((f i).1.emb x) = (f i).2 x
  | 0, _, _ => fun i => i.elim0
  | n + 1, f, hd => fun i => by
      refine Fin.lastCases ?_ (fun i => ?_) i
      · intro x; exact View.canon_cons_emb (Val := Elt F) (f (Fin.last n)).1 (f (Fin.last n)).2 _ x
      · intro x
        refine (View.canon_cons_of_not_mem (Val := Elt F) (f (Fin.last n)) _ (hd _ _ (Fin.castSucc_lt_last i).ne x)).trans ?_
        exact canon_stack n (fun j => f j.castSucc) (fun a b hab => hd _ _ (fun h => hab (Fin.castSucc_injective _ h))) i x

theorem permuted_canon (p : Fin 2 → Fin 14 → Vec Ideal S96x128 .bf16) (g : Fin 14) (b : Fin 96) (k : Fin 256) :
    View.canon (Val := Elt Ideal) (permuted p) (ix3 g b k)
      = if k.val % 2 < 1 then p 0 g (ix2 b (⟨k.val / 2, by omega⟩ : Fin 128)) else p 1 g (ix2 b (⟨k.val / 2, by omega⟩ : Fin 128)) := by
  refine Eq.trans ?_ (permuted_apply (p 0 g) (p 1 g) b k)
  refine Eq.trans ?_ (canon_stack 14 (fun g => (⟨xpAt g, Gen.k0_pay24 (Gen.k0_pay6 Gen.k0_pay5) (p 0 g) (p 1 g)⟩ : View.Piece (Elt Ideal) S14x96x256 .bf16))
    (fun i j hij x => xpAt_not_mem hij x) g (ix3 (0 : Fin 1) b k))
  refine congrArg (View.canon (Val := Elt Ideal) (permuted p)) ?_
  funext a
  apply Fin.ext
  fin_cases a
  · show g.val = g.val + 1 * 0; omega
  · show b.val = 0 + 1 * b.val; omega
  · show k.val = 0 + 1 * k.val; omega

end Cert.KernelIdeal.Hand

end
-- ==== Proof.StepA.lean ====
module

public import proofs.«01_k».proof.Proof.ViewA
public import proofs.«01_k».proof.Proof.BlockAt
public import proofs.«01_k».proof.Proof.PermAt

/-! The first step's buffers, entry by entry. -/

@[expose] public section

set_option maxRecDepth 16384

noncomputable section

namespace Cert.KernelIdeal.Hand

open Idealize.ShloMosaic Idealize.ShloMosaic.TcCoe Idealize.ShloMosaic.Tactic Cert.KernelIdeal Facts₀ Facts

/-- A load of all of a whole buffer. -/
theorem readAll {sp : Space} {s : Shape} {e : EltTy} (a : Memref sig .tc sp s e) (ha : a.IsWhole) (off : Fin s.rank → ℕ)
    (inb : ∀ k, off k + s.size k ≤ s.size k) (x : Vec Ideal s e) :
    View.readAt (Elt Ideal) a.view (Rect.unit off s.size inb).toLoadRect (ha.unread x) = x :=
  funext fun y => (readWhole a ha _ x y).trans (congrArg x (funext fun k => Fin.ext (by
    show off k + 1 * (y k).val = (y k).val
    have := inb k; omega)))

/-- A load of a stored-over whole buffer. -/
theorem covAll {sp : Space} {s : Shape} {e : EltTy} (v : View sig .tc sp s e) (off : Fin s.rank → ℕ)
    (inb : ∀ k, off k + s.size k ≤ s.size k) (x : Vec Ideal s e) (y : s.Idx) :
    v.readCov (Val := Elt Ideal) [⟨Rect.unit off s.size inb, x⟩] (Rect.unit off s.size inb).toLoadRect y = x y := by
  rw [View.readCov_eq_canon']
  exact View.canon_cons_emb (Val := Elt Ideal) (Rect.unit off s.size inb) x [] y

section Loads

variable (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg20 : Memref sig .tc .vmem S576x3584 .bf16) (harg20 : arg20.IsWhole)
    (x1 : Vec Ideal S96x3584 .bf16) (x2 : Vec Ideal S1x96 .i32) (x3 : Vec Ideal S9 .f32) (x20 : Vec Ideal S576x3584 .bf16)

theorem idxA_eq : idxA (F := Ideal) arg2 harg2 x2 = x2 := by
  unfold idxA
  rw [readAll]
  funext y
  exact congrArg x2 (Shape.reshapeEquiv_self _ y)

theorem lowA_apply (r : Fin 64) (b : Fin 96) :
    lowA (F := Ideal) arg1 harg1 arg2 harg2 arg3 harg3 arg20 harg20 x1 x2 x3 x20 (ix2 r b) = lowOf x1 x2 x3 x20 b r := by
  unfold lowA
  rw [idxA_eq, readAll, readAll, lowRank_apply]
  unfold lowOf
  refine congrArg₂ (· * ·) (Finset.sum_congr rfl fun n _ => congrArg _ (all_apply _ _ _ _)) (Finset.sum_congr rfl fun n _ => congrArg _ ?_)
  exact (readWhole arg3 harg3 _ x3 _).trans (congrArg x3 (funext fun k => Fin.ext (by
    match k with
    | ⟨0, _⟩ => rfl)))

theorem wideA_apply (t : Fin 2) (b : Fin 96) (k : Fin 288) :
    expandAt t (idxA (F := Ideal) arg2 harg2 x2) (lowA (F := Ideal) arg1 harg1 arg2 harg2 arg3 harg3 arg20 harg20 x1 x2 x3 x20) (ix2 b k)
      = wideOf x1 x2 x3 x20 t b k := by
  rw [expandAt_apply, lowA_apply, idxA_eq]
  rfl

theorem xpA_canon (g : Fin 14) (b : Fin 96) (k : Fin 256) :
    View.canon (Val := Elt Ideal) (xpA (F := Ideal) arg1 harg1 x1) (ix3 g b k) = xpOf x1 g b k := by
  unfold xpA xpOf
  refine (permuted_canon _ g b k).trans ?_
  split_ifs
  · exact (readWhole arg1 harg1 _ x1 _).trans <| congrArg x1 (funext fun a => Fin.ext (by
      match a with
      | ⟨0, _⟩ => show 0 + 1 * b.val = b.val; omega
      | ⟨1, _⟩ => show (1792 * 0 + 128 * g.val) + 1 * (k.val / 2) = 128 * g.val + k.val / 2; omega))
  · exact (readWhole arg1 harg1 _ x1 _).trans <| congrArg x1 (funext fun a => Fin.ext (by
      match a with
      | ⟨0, _⟩ => show 0 + 1 * b.val = b.val; omega
      | ⟨1, _⟩ => show (1792 * 1 + 128 * g.val) + 1 * (k.val / 2) = 1792 + 128 * g.val + k.val / 2; omega))

theorem xpA_load (m29 : Memref sig .tc .vmem S14x96x256 .bf16) (g : Fin 14) (b : Fin 96) (k : Fin 256) :
    m29.view.readCov (Val := Elt Ideal) (xpA (F := Ideal) arg1 harg1 x1) (xpAt g).toLoadRect (ix3 (0 : Fin 1) b k) = xpOf x1 g b k := by
  rw [View.readCov_eq_canon']
  refine Eq.trans (congrArg (View.canon (Val := Elt Ideal) (xpA (F := Ideal) arg1 harg1 x1)) ?_) (xpA_canon arg1 harg1 x1 g b k)
  funext a
  refine Fin.ext ?_
  match a with
  | ⟨0, _⟩ => show g.val + 1 * 0 = g.val; omega
  | ⟨1, _⟩ => show 0 + 1 * b.val = b.val; omega
  | ⟨2, _⟩ => show 0 + 1 * k.val = k.val; omega

theorem mem_stack {α : Type} : (n : ℕ) → (f : Fin n → α) → (i : Fin n) → f i ∈ stack n f
  | 0, _, i => i.elim0
  | n + 1, f, i => by
      refine Fin.lastCases ?_ (fun i => ?_) i
      · exact List.mem_cons_self
      · exact List.mem_cons_of_mem _ (mem_stack n (fun i => f i.castSucc) i)

theorem xpA_read {sp : Space} (v : View sig .tc sp S14x96x256 .bf16) (f : v.ty.Contents (Elt Ideal)) (g : Fin 14) (b : Fin 96) (k : Fin 256) :
    v.read (Elt Ideal) (v.writes (Elt Ideal) f (xpA (F := Ideal) arg1 harg1 x1)) (ix3 g b k) = xpOf x1 g b k := by
  have hm : ix3 g b k ∈ (xpAt g).set := by
    rw [xpAt, Rect.mem_set_unit]
    intro a
    match a with
    | ⟨0, _⟩ => show g.val ≤ g.val ∧ g.val < g.val + 1; omega
    | ⟨1, _⟩ => show 0 ≤ b.val ∧ b.val < 0 + 96; omega
    | ⟨2, _⟩ => show 0 ≤ k.val ∧ k.val < 0 + 256; omega
  rw [View.read_writes_apply_eq_canon, xpA_canon]
  unfold xpA permuted
  exact ⟨_, mem_stack 14 _ g, hm⟩

end Loads

/-- A load of the codes. -/
theorem code_load (m : Memref sig .tc .vmem S1792x512 .i8) (hm : m.IsWhole) (x : Vec Ideal S1792x512 .i8) (h : Fin 2) (g : Fin 14) (r : Fin 128) (j : Fin 256) :
    View.readAt (Elt Ideal) m.view (codeAt h g).toLoadRect (hm.unread x) (ix2 r j)
      = x (ix2 (⟨128 * g.val + r.val, by omega⟩ : Fin 1792) (⟨256 * h.val + j.val, by omega⟩ : Fin 512)) :=
  (readWhole m hm _ x _).trans (congrArg x (funext fun a => Fin.ext (by
    match a with
    | ⟨0, _⟩ => show 128 * g.val + 1 * r.val = 128 * g.val + r.val; omega
    | ⟨1, _⟩ => show 256 * h.val + 1 * j.val = 256 * h.val + j.val; omega)))

/-- A load of an adapter's expansion rows. -/
theorem adapter_load (m : Memref sig .tc .vmem S9x2x32x512 .bf16) (hm : m.IsWhole) (x : Vec Ideal S9x2x32x512 .bf16) (p h : Fin 2) (n : Fin 9) (r : Fin 32) (j : Fin 256) :
    View.readAt (Elt Ideal) m.view (adapterAt p h n).toLoadRect (hm.unread x) (ix4 (0 : Fin 1) (0 : Fin 1) r j)
      = x (ix4 n p r (⟨256 * h.val + j.val, by omega⟩ : Fin 512)) :=
  (readWhole m hm _ x _).trans (congrArg x (funext fun a => Fin.ext (by
    match a with
    | ⟨0, _⟩ => show n.val + 1 * 0 = n.val; omega
    | ⟨1, _⟩ => show p.val + 1 * 0 = p.val; omega
    | ⟨2, _⟩ => show 0 + 1 * r.val = r.val; omega
    | ⟨3, _⟩ => show 256 * h.val + 1 * j.val = 256 * h.val + j.val; omega)))

end Cert.KernelIdeal.Hand

end
-- ==== Proof.HiddenA.lean ====
module

public import proofs.«01_k».proof.Proof.StepA

/-! What the first step stores of the hidden activation, entry by entry. -/

@[expose] public section

set_option maxRecDepth 16384

noncomputable section

namespace Cert.KernelIdeal.Hand

open Idealize.ShloMosaic Idealize.ShloMosaic.TcCoe Idealize.ShloMosaic.Tactic Cert.KernelIdeal Facts₀ Facts

variable (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : k0_cond1 i = 1#1) (hc1 : k0_cond2 i = 1#1) (hc2 : ¬ k0_cond3 i = 1#1) (hc3 : ¬ k0_cond4 i = 1#1)
    (x1 : Vec Ideal S96x3584 .bf16) (x2 : Vec Ideal S1x96 .i32) (x3 : Vec Ideal S9 .f32) (x4 : Vec Ideal S1792x512 .i8) (x5 : Vec Ideal S1792x512 .i8) (x6 : Vec Ideal S1792x512 .i8) (x7 : Vec Ideal S1792x512 .i8) (x8 : Vec Ideal S28x512 .bf16) (x9 : Vec Ideal S28x512 .bf16) (x10 : Vec Ideal S28x512 .bf16) (x11 : Vec Ideal S28x512 .bf16) (x12 : Vec Ideal S28x512 .i8) (x13 : Vec Ideal S28x512 .i8) (x14 : Vec Ideal S28x512 .i8) (x15 : Vec Ideal S28x512 .i8) (x16 : Vec Ideal S9x2x32x512 .bf16) (x17 : Vec Ideal S9x2x32x512 .bf16) (x18 : Vec Ideal S9x32x512 .bf16) (x19 : Vec Ideal S9x32x512 .bf16) (x20 : Vec Ideal S576x3584 .bf16)

theorem scalesA_eq : scalesA (F := Ideal) arg8 harg8 arg9 harg9 arg10 harg10 arg11 harg11 x8 x9 x10 x11 = ![x8, x9, x10, x11] := by
  unfold scalesA
  rw [readAll, readAll, readAll, readAll]

theorem zerosA_eq : zerosA (F := Ideal) arg12 harg12 arg13 harg13 arg14 harg14 arg15 harg15 x12 x13 x14 x15 = ![x12, x13, x14, x15] := by
  unfold zerosA
  rw [readAll, readAll, readAll, readAll]

theorem codesA_apply (h : Fin 2) (g : Fin 14) (r : Fin 128) (j : Fin 256) : (q : Fin 4) →
    codesA (F := Ideal) arg4 harg4 arg5 harg5 arg6 harg6 arg7 harg7 x4 x5 x6 x7 q h g (ix2 r j)
      = (![x4, x5, x6, x7] : Fin 4 → Vec Ideal S1792x512 .i8) q (ix2 (⟨128 * g.val + r.val, by omega⟩ : Fin 1792) (⟨256 * h.val + j.val, by omega⟩ : Fin 512))
  | 0 => code_load arg4 harg4 x4 h g r j
  | 1 => code_load arg5 harg5 x5 h g r j
  | 2 => code_load arg6 harg6 x6 h g r j
  | 3 => code_load arg7 harg7 x7 h g r j

theorem adaptersA_apply (p h : Fin 2) (n : Fin 9) (r : Fin 32) (j : Fin 256) : (w : Fin 2) →
    adaptersA (F := Ideal) arg16 harg16 arg17 harg17 x16 x17 w p h n (ix4 (0 : Fin 1) (0 : Fin 1) r j)
      = (![x16, x17] : Fin 2 → Vec Ideal S9x2x32x512 .bf16) w (ix4 n p r (⟨256 * h.val + j.val, by omega⟩ : Fin 512))
  | 0 => adapter_load arg16 harg16 x16 p h n r j
  | 1 => adapter_load arg17 harg17 x17 p h n r j

set_option maxHeartbeats 1000000 in
/-- A step leaves its own columns of the hidden activation and keeps the others. -/
theorem runA_read (A2 : Vec Ideal S1792x28672 .i8) (A3 : Vec Ideal S28x28672 .bf16) (A4 : Vec Ideal S28x28672 .i8) (A9 : Vec Ideal S9x2x32x14336 .bf16)
    (ht : (i 0).val < 14)
    (hv : ∀ (k : Fin 1792) (j : Fin 512) (q : Fin 4), (![x4, x5, x6, x7] : Fin 4 → Vec Ideal S1792x512 .i8) q (ix2 k j) = A2 (ix2 k (⟨7168 * q.val + 512 * (i 0).val + j.val, by omega⟩ : Fin 28672)))
    (hs : ∀ (k : Fin 28) (j : Fin 512) (q : Fin 4), (![x8, x9, x10, x11] : Fin 4 → Vec Ideal S28x512 .bf16) q (ix2 k j) = A3 (ix2 k (⟨7168 * q.val + 512 * (i 0).val + j.val, by omega⟩ : Fin 28672)))
    (hz : ∀ (k : Fin 28) (j : Fin 512) (q : Fin 4), (![x12, x13, x14, x15] : Fin 4 → Vec Ideal S28x512 .i8) q (ix2 k j) = A4 (ix2 k (⟨7168 * q.val + 512 * (i 0).val + j.val, by omega⟩ : Fin 28672)))
    (ha : ∀ (n : Fin 9) (p : Fin 2) (r : Fin 32) (j : Fin 512) (w : Fin 2), (![x16, x17] : Fin 2 → Vec Ideal S9x2x32x512 .bf16) w (ix4 n p r j) = A9 (ix4 n p r (⟨7168 * w.val + 512 * (i 0).val + j.val, by omega⟩ : Fin 14336)))
    (f : arg26.view.ty.Contents (Elt Ideal)) (b : Fin 96) (k : Fin 14336) :
    arg26.view.read (Elt Ideal) (arg26.view.writes (Elt Ideal) f (Gen.runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).1) (ix2 b k)
      = if k.val % 7168 / 512 = (i 0).val then hiddenOf x1 x2 x3 x20 A2 A3 A4 A9 b k else arg26.view.read (Elt Ideal) f (ix2 b k) := by
  rw [runA_hidden]
  refine blocks_read arg26.view f i hc1 ht _ b (hiddenOf x1 x2 x3 x20 A2 A3 A4 A9) (fun w h j => ?_) k
  refine blockOf_apply x1 x2 x3 x20 A2 A3 A4 A9 arg36 arg37 _ _ _ _ _ _ (i 0).val ht (fun g b k => xpA_load arg1 harg1 x1 arg29 g b k)
    (fun p b k => by
        match p with
        | 0 => exact (covAll _ _ _ _ _).trans (wideA_apply arg1 harg1 arg2 harg2 arg3 harg3 arg20 harg20 x1 x2 x3 x20 0 b k)
        | 1 => exact (covAll _ _ _ _ _).trans (wideA_apply arg1 harg1 arg2 harg2 arg3 harg3 arg20 harg20 x1 x2 x3 x20 1 b k))
    (fun k j q => (congrFun (congrFun (scalesA_eq arg8 harg8 arg9 harg9 arg10 harg10 arg11 harg11 x8 x9 x10 x11) q) _).trans (hs k j q))
    (fun k j q => (congrFun (congrFun (zerosA_eq arg12 harg12 arg13 harg13 arg14 harg14 arg15 harg15 x12 x13 x14 x15) q) _).trans (hz k j q))
    (fun q h g r j => (codesA_apply arg4 harg4 arg5 harg5 arg6 harg6 arg7 harg7 x4 x5 x6 x7 h g r j q).trans (hv _ _ q))
    (fun w p h n r j => (adaptersA_apply arg16 harg16 arg17 harg17 x16 x17 p h n r j w).trans ((ha n p r _ w).trans (congrArg A9 (congrArg (ix4 n p r) (Fin.ext (by simp only [colOf]; omega))))))
    w h b j

theorem runA_low_read (f : arg27.view.ty.Contents (Elt Ideal)) (b : Fin 96) (r : Fin 64) :
    arg27.view.read (Elt Ideal) (arg27.view.writes (Elt Ideal) f (Gen.runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.1) (ix2 b r) = lowOf x1 x2 x3 x20 b r := by
  rw [runA_low]
  exact (whole_writes _ _ _ _ _ _).trans ((out_apply _ b r).trans (lowA_apply arg1 harg1 arg2 harg2 arg3 harg3 arg20 harg20 x1 x2 x3 x20 r b))

theorem runA_xp_read (f : arg29.view.ty.Contents (Elt Ideal)) (g : Fin 14) (b : Fin 96) (k : Fin 256) :
    arg29.view.read (Elt Ideal) (arg29.view.writes (Elt Ideal) f (Gen.runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.1) (ix3 g b k) = xpOf x1 g b k := by
  rw [runA_xp]
  exact xpA_read arg1 harg1 x1 _ _ g b k

theorem runA_mg_read (f : arg32.view.ty.Contents (Elt Ideal)) (b : Fin 96) (k : Fin 288) :
    arg32.view.read (Elt Ideal) (arg32.view.writes (Elt Ideal) f (Gen.runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.2.2.2.1) (ix2 b k) = wideOf x1 x2 x3 x20 0 b k := by
  rw [runA_mg]
  exact (whole_writes _ _ _ _ _ _).trans (wideA_apply arg1 harg1 arg2 harg2 arg3 harg3 arg20 harg20 x1 x2 x3 x20 0 b k)

theorem runA_mu_read (f : arg33.view.ty.Contents (Elt Ideal)) (b : Fin 96) (k : Fin 288) :
    arg33.view.read (Elt Ideal) (arg33.view.writes (Elt Ideal) f (Gen.runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x1 x2 x3 x4 x5 x6 x7 x8 x9 x10 x11 x12 x13 x14 x15 x16 x17 x18 x19 x20).2.2.2.2.2.2.1) (ix2 b k) = wideOf x1 x2 x3 x20 1 b k := by
  rw [runA_mu]
  exact (whole_writes _ _ _ _ _ _).trans (wideA_apply arg1 harg1 arg2 harg2 arg3 harg3 arg20 harg20 x1 x2 x3 x20 1 b k)

end Cert.KernelIdeal.Hand

end
-- ==== Proof.Windows.lean ====
module

public import proofs.«01_k».proof.Proof.States

/-! The window blocks, in the order in which a step asks for them. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem codeAll (c : Dev nD) (t : Fin cfg0.N) (ht : t.val < 14) {hlt : ∀ (k : Fin 1792) (j : Fin 512) (q : Fin 4), 7168 * q.val + 512 * (grid0.coords t 0).val + j.val < 28672} (k : Fin 1792) (j : Fin 512) (q : Fin 4) :
    (![iblk m c 3 t, iblk m c 4 t, iblk m c 5 t, iblk m c 6 t] : Fin 4 → Vec Ideal S1792x512 .i8) q (ix2 k j) = V m c main_arg2 (ix2 k (⟨7168 * q.val + 512 * (grid0.coords t 0).val + j.val, hlt k j q⟩ : Fin 28672)) :=
  (codeBlock m c t ht k j q).trans (congrArg (V m c main_arg2) (congrArg (ix2 k) (Fin.ext (by simp only [coord_val]))))

theorem scaleAll (c : Dev nD) (t : Fin cfg0.N) (ht : t.val < 14) {hlt : ∀ (k : Fin 28) (j : Fin 512) (q : Fin 4), 7168 * q.val + 512 * (grid0.coords t 0).val + j.val < 28672} (k : Fin 28) (j : Fin 512) (q : Fin 4) :
    (![iblk m c 7 t, iblk m c 8 t, iblk m c 9 t, iblk m c 10 t] : Fin 4 → Vec Ideal S28x512 .bf16) q (ix2 k j) = V m c main_arg3 (ix2 k (⟨7168 * q.val + 512 * (grid0.coords t 0).val + j.val, hlt k j q⟩ : Fin 28672)) :=
  (scaleBlock m c t ht k j q).trans (congrArg (V m c main_arg3) (congrArg (ix2 k) (Fin.ext (by simp only [coord_val]))))

theorem zeroAll (c : Dev nD) (t : Fin cfg0.N) (ht : t.val < 14) {hlt : ∀ (k : Fin 28) (j : Fin 512) (q : Fin 4), 7168 * q.val + 512 * (grid0.coords t 0).val + j.val < 28672} (k : Fin 28) (j : Fin 512) (q : Fin 4) :
    (![iblk m c 11 t, iblk m c 12 t, iblk m c 13 t, iblk m c 14 t] : Fin 4 → Vec Ideal S28x512 .i8) q (ix2 k j) = V m c main_arg4 (ix2 k (⟨7168 * q.val + 512 * (grid0.coords t 0).val + j.val, hlt k j q⟩ : Fin 28672)) :=
  (zeroBlock m c t ht k j q).trans (congrArg (V m c main_arg4) (congrArg (ix2 k) (Fin.ext (by simp only [coord_val]))))

theorem adapterAll (c : Dev nD) (t : Fin cfg0.N) (ht : t.val < 14)
    {hlt : ∀ (n : Fin 9) (p : Fin 2) (r : Fin 32) (j : Fin 512) (w : Fin 2), 7168 * w.val + 512 * (grid0.coords t 0).val + j.val < 14336}
    (n : Fin 9) (p : Fin 2) (r : Fin 32) (j : Fin 512) (w : Fin 2) :
    (![iblk m c 15 t, iblk m c 16 t] : Fin 2 → Vec Ideal S9x2x32x512 .bf16) w (ix4 n p r j)
      = V m c main_arg9 (ix4 n p r (⟨7168 * w.val + 512 * (grid0.coords t 0).val + j.val, hlt n p r j w⟩ : Fin 14336)) :=
  (adapterBlock m c t ht n p r j w).trans (congrArg (V m c main_arg9) (congrArg (ix4 n p r) (Fin.ext (by simp only [coord_val]))))

set_option maxHeartbeats 4000000 in
/-- What a proof of one step gives: from buffers at their blocks and the kept scratch buffers it reaches the same buffers,
    the outputs and the kept scratch buffers moved on by one step. -/
def StepGoal (c : Dev nD) (t : Fin cfg0.N) : Prop :=
    ∀ (f1 : (ms0_0 t).view.ty.Contents (Elt Ideal)) (f2 : (ms0_1 t).view.ty.Contents (Elt Ideal)) (f3 : (ms0_2 t).view.ty.Contents (Elt Ideal)) (f4 : (ms0_3 t).view.ty.Contents (Elt Ideal)) (f5 : (ms0_4 t).view.ty.Contents (Elt Ideal)) (f6 : (ms0_5 t).view.ty.Contents (Elt Ideal)) (f7 : (ms0_6 t).view.ty.Contents (Elt Ideal)) (f8 : (ms0_7 t).view.ty.Contents (Elt Ideal)) (f9 : (ms0_8 t).view.ty.Contents (Elt Ideal)) (f10 : (ms0_9 t).view.ty.Contents (Elt Ideal)) (f11 : (ms0_10 t).view.ty.Contents (Elt Ideal)) (f12 : (ms0_11 t).view.ty.Contents (Elt Ideal)) (f13 : (ms0_12 t).view.ty.Contents (Elt Ideal)) (f14 : (ms0_13 t).view.ty.Contents (Elt Ideal)) (f15 : (ms0_14 t).view.ty.Contents (Elt Ideal)) (f16 : (ms0_15 t).view.ty.Contents (Elt Ideal)) (f17 : (ms0_16 t).view.ty.Contents (Elt Ideal)) (f18 : (ms0_17 t).view.ty.Contents (Elt Ideal)) (f19 : (ms0_18 t).view.ty.Contents (Elt Ideal)) (f20 : (ms0_19 t).view.ty.Contents (Elt Ideal)) (f21 : (ms0_20 t).view.ty.Contents (Elt Ideal)) (f22 : (ms0_21 t).view.ty.Contents (Elt Ideal)) (f23 : (ms0_22 t).view.ty.Contents (Elt Ideal)) (f24 : (ms0_23 t).view.ty.Contents (Elt Ideal)) (f25 : (ms0_24 t).view.ty.Contents (Elt Ideal)) (f26 : (ms0_25 t).view.ty.Contents (Elt Ideal)) (f27 : (ms0_26 t).view.ty.Contents (Elt Ideal)) (f28 : (ms0_27 t).view.ty.Contents (Elt Ideal)) (f29 : (scM0_0).view.ty.Contents (Elt Ideal)) (f30 : (scM0_1).view.ty.Contents (Elt Ideal)) (f31 : (scM0_2).view.ty.Contents (Elt Ideal)) (f32 : (scM0_3).view.ty.Contents (Elt Ideal)) (f33 : (scM0_4).view.ty.Contents (Elt Ideal)) (f34 : (scM0_5).view.ty.Contents (Elt Ideal)) (f35 : (scM0_6).view.ty.Contents (Elt Ideal)) (f36 : (scM0_7).view.ty.Contents (Elt Ideal)) (f37 : (scM0_8).view.ty.Contents (Elt Ideal)) (f38 : (scM0_9).view.ty.Contents (Elt Ideal)) (f39 : (scM0_10).view.ty.Contents (Elt Ideal)) (h1 : (ms0_0 t).view.read (Elt Ideal) f1 = iblk m c 0 t) (h2 : (ms0_1 t).view.read (Elt Ideal) f2 = iblk m c 1 t) (h3 : (ms0_2 t).view.read (Elt Ideal) f3 = iblk m c 2 t) (h4 : (ms0_3 t).view.read (Elt Ideal) f4 = iblk m c 3 t) (h5 : (ms0_4 t).view.read (Elt Ideal) f5 = iblk m c 4 t) (h6 : (ms0_5 t).view.read (Elt Ideal) f6 = iblk m c 5 t) (h7 : (ms0_6 t).view.read (Elt Ideal) f7 = iblk m c 6 t) (h8 : (ms0_7 t).view.read (Elt Ideal) f8 = iblk m c 7 t) (h9 : (ms0_8 t).view.read (Elt Ideal) f9 = iblk m c 8 t) (h10 : (ms0_9 t).view.read (Elt Ideal) f10 = iblk m c 9 t) (h11 : (ms0_10 t).view.read (Elt Ideal) f11 = iblk m c 10 t) (h12 : (ms0_11 t).view.read (Elt Ideal) f12 = iblk m c 11 t) (h13 : (ms0_12 t).view.read (Elt Ideal) f13 = iblk m c 12 t) (h14 : (ms0_13 t).view.read (Elt Ideal) f14 = iblk m c 13 t) (h15 : (ms0_14 t).view.read (Elt Ideal) f15 = iblk m c 14 t) (h16 : (ms0_15 t).view.read (Elt Ideal) f16 = iblk m c 15 t) (h17 : (ms0_16 t).view.read (Elt Ideal) f17 = iblk m c 16 t) (h18 : (ms0_17 t).view.read (Elt Ideal) f18 = iblk m c 17 t) (h19 : (ms0_18 t).view.read (Elt Ideal) f19 = iblk m c 18 t) (h20 : (ms0_19 t).view.read (Elt Ideal) f20 = iblk m c 19 t)
      (h29 : 1 ≤ t.val → t.val < 14 → XpOK m c ((scM0_0).view.read (Elt Ideal) f29) ∧ WideOK m c 0 ((scM0_3).view.read (Elt Ideal) f32) ∧ WideOK m c 1 ((scM0_4).view.read (Elt Ideal) f33)) (E : Set ℕ) (K : PUnit → sProp 𝕄),
      iprop((View.loc (c : Thread nD τ) (ms0_0 t).view ↦[(ms0_0 t).view.set]{fullShare} f1) ∗ (View.loc (c : Thread nD τ) (ms0_1 t).view ↦[(ms0_1 t).view.set]{fullShare} f2) ∗ (View.loc (c : Thread nD τ) (ms0_2 t).view ↦[(ms0_2 t).view.set]{fullShare} f3) ∗ (View.loc (c : Thread nD τ) (ms0_3 t).view ↦[(ms0_3 t).view.set]{fullShare} f4) ∗ (View.loc (c : Thread nD τ) (ms0_4 t).view ↦[(ms0_4 t).view.set]{fullShare} f5) ∗ (View.loc (c : Thread nD τ) (ms0_5 t).view ↦[(ms0_5 t).view.set]{fullShare} f6) ∗ (View.loc (c : Thread nD τ) (ms0_6 t).view ↦[(ms0_6 t).view.set]{fullShare} f7) ∗ (View.loc (c : Thread nD τ) (ms0_7 t).view ↦[(ms0_7 t).view.set]{fullShare} f8) ∗ (View.loc (c : Thread nD τ) (ms0_8 t).view ↦[(ms0_8 t).view.set]{fullShare} f9) ∗ (View.loc (c : Thread nD τ) (ms0_9 t).view ↦[(ms0_9 t).view.set]{fullShare} f10) ∗ (View.loc (c : Thread nD τ) (ms0_10 t).view ↦[(ms0_10 t).view.set]{fullShare} f11) ∗ (View.loc (c : Thread nD τ) (ms0_11 t).view ↦[(ms0_11 t).view.set]{fullShare} f12) ∗ (View.loc (c : Thread nD τ) (ms0_12 t).view ↦[(ms0_12 t).view.set]{fullShare} f13) ∗ (View.loc (c : Thread nD τ) (ms0_13 t).view ↦[(ms0_13 t).view.set]{fullShare} f14) ∗ (View.loc (c : Thread nD τ) (ms0_14 t).view ↦[(ms0_14 t).view.set]{fullShare} f15) ∗ (View.loc (c : Thread nD τ) (ms0_15 t).view ↦[(ms0_15 t).view.set]{fullShare} f16) ∗ (View.loc (c : Thread nD τ) (ms0_16 t).view ↦[(ms0_16 t).view.set]{fullShare} f17) ∗ (View.loc (c : Thread nD τ) (ms0_17 t).view ↦[(ms0_17 t).view.set]{fullShare} f18) ∗ (View.loc (c : Thread nD τ) (ms0_18 t).view ↦[(ms0_18 t).view.set]{fullShare} f19) ∗ (View.loc (c : Thread nD τ) (ms0_19 t).view ↦[(ms0_19 t).view.set]{fullShare} f20) ∗ (View.loc (c : Thread nD τ) (ms0_20 t).view ↦[(ms0_20 t).view.set]{fullShare} f21) ∗ (View.loc (c : Thread nD τ) (ms0_21 t).view ↦[(ms0_21 t).view.set]{fullShare} f22) ∗ (View.loc (c : Thread nD τ) (ms0_22 t).view ↦[(ms0_22 t).view.set]{fullShare} f23) ∗ (View.loc (c : Thread nD τ) (ms0_23 t).view ↦[(ms0_23 t).view.set]{fullShare} f24) ∗ (View.loc (c : Thread nD τ) (ms0_24 t).view ↦[(ms0_24 t).view.set]{fullShare} f25) ∗ (View.loc (c : Thread nD τ) (ms0_25 t).view ↦[(ms0_25 t).view.set]{fullShare} f26) ∗ (View.loc (c : Thread nD τ) (ms0_26 t).view ↦[(ms0_26 t).view.set]{fullShare} f27) ∗ (View.loc (c : Thread nD τ) (ms0_27 t).view ↦[(ms0_27 t).view.set]{fullShare} f28) ∗ (View.loc (c : Thread nD τ) (scM0_0).view ↦[(scM0_0).view.set]{fullShare} f29) ∗ (View.loc (c : Thread nD τ) (scM0_1).view ↦[(scM0_1).view.set]{fullShare} f30) ∗ (View.loc (c : Thread nD τ) (scM0_2).view ↦[(scM0_2).view.set]{fullShare} f31) ∗ (View.loc (c : Thread nD τ) (scM0_3).view ↦[(scM0_3).view.set]{fullShare} f32) ∗ (View.loc (c : Thread nD τ) (scM0_4).view ↦[(scM0_4).view.set]{fullShare} f33) ∗ (View.loc (c : Thread nD τ) (scM0_5).view ↦[(scM0_5).view.set]{fullShare} f34) ∗ (View.loc (c : Thread nD τ) (scM0_6).view ↦[(scM0_6).view.set]{fullShare} f35) ∗ (View.loc (c : Thread nD τ) (scM0_7).view ↦[(scM0_7).view.set]{fullShare} f36) ∗ (View.loc (c : Thread nD τ) (scM0_8).view ↦[(scM0_8).view.set]{fullShare} f37) ∗ (View.loc (c : Thread nD τ) (scM0_9).view ↦[(scM0_9).view.set]{fullShare} f38) ∗ (View.loc (c : Thread nD τ) (scM0_10).view ↦[(scM0_10).view.set]{fullShare} f39) ∗ (iprop((View.loc (c : Thread nD τ) (ms0_0 t).view ↦[(ms0_0 t).view.set]{fullShare} f1) ∗ (View.loc (c : Thread nD τ) (ms0_1 t).view ↦[(ms0_1 t).view.set]{fullShare} f2) ∗ (View.loc (c : Thread nD τ) (ms0_2 t).view ↦[(ms0_2 t).view.set]{fullShare} f3) ∗ (View.loc (c : Thread nD τ) (ms0_3 t).view ↦[(ms0_3 t).view.set]{fullShare} f4) ∗ (View.loc (c : Thread nD τ) (ms0_4 t).view ↦[(ms0_4 t).view.set]{fullShare} f5) ∗ (View.loc (c : Thread nD τ) (ms0_5 t).view ↦[(ms0_5 t).view.set]{fullShare} f6) ∗ (View.loc (c : Thread nD τ) (ms0_6 t).view ↦[(ms0_6 t).view.set]{fullShare} f7) ∗ (View.loc (c : Thread nD τ) (ms0_7 t).view ↦[(ms0_7 t).view.set]{fullShare} f8) ∗ (View.loc (c : Thread nD τ) (ms0_8 t).view ↦[(ms0_8 t).view.set]{fullShare} f9) ∗ (View.loc (c : Thread nD τ) (ms0_9 t).view ↦[(ms0_9 t).view.set]{fullShare} f10) ∗ (View.loc (c : Thread nD τ) (ms0_10 t).view ↦[(ms0_10 t).view.set]{fullShare} f11) ∗ (View.loc (c : Thread nD τ) (ms0_11 t).view ↦[(ms0_11 t).view.set]{fullShare} f12) ∗ (View.loc (c : Thread nD τ) (ms0_12 t).view ↦[(ms0_12 t).view.set]{fullShare} f13) ∗ (View.loc (c : Thread nD τ) (ms0_13 t).view ↦[(ms0_13 t).view.set]{fullShare} f14) ∗ (View.loc (c : Thread nD τ) (ms0_14 t).view ↦[(ms0_14 t).view.set]{fullShare} f15) ∗ (View.loc (c : Thread nD τ) (ms0_15 t).view ↦[(ms0_15 t).view.set]{fullShare} f16) ∗ (View.loc (c : Thread nD τ) (ms0_16 t).view ↦[(ms0_16 t).view.set]{fullShare} f17) ∗ (View.loc (c : Thread nD τ) (ms0_17 t).view ↦[(ms0_17 t).view.set]{fullShare} f18) ∗ (View.loc (c : Thread nD τ) (ms0_18 t).view ↦[(ms0_18 t).view.set]{fullShare} f19) ∗ (View.loc (c : Thread nD τ) (ms0_19 t).view ↦[(ms0_19 t).view.set]{fullShare} f20) ∗ (View.loc (c : Thread nD τ) (ms0_20 t).view ↦[(ms0_20 t).view.set]{fullShare} f21) ∗ (View.loc (c : Thread nD τ) (ms0_21 t).view ↦[(ms0_21 t).view.set]{fullShare} f22) ∗ (View.loc (c : Thread nD τ) (ms0_22 t).view ↦[(ms0_22 t).view.set]{fullShare} f23) ∗ (View.loc (c : Thread nD τ) (ms0_23 t).view ↦[(ms0_23 t).view.set]{fullShare} f24) ∗ (∃ g, (View.loc (c : Thread nD τ) (ms0_24 t).view ↦[(ms0_24 t).view.set]{fullShare} g)) ∗ (∃ g, ⌜HidStep m c t.val ((ms0_25 t).view.read (Elt Ideal) f26) ((ms0_25 t).view.read (Elt Ideal) g)⌝ ∗ (View.loc (c : Thread nD τ) (ms0_25 t).view ↦[(ms0_25 t).view.set]{fullShare} g)) ∗ (∃ g, ⌜LowStep m c t.val ((ms0_26 t).view.read (Elt Ideal) f27) ((ms0_26 t).view.read (Elt Ideal) g)⌝ ∗ (View.loc (c : Thread nD τ) (ms0_26 t).view ↦[(ms0_26 t).view.set]{fullShare} g)) ∗ (∃ g, (View.loc (c : Thread nD τ) (ms0_27 t).view ↦[(ms0_27 t).view.set]{fullShare} g)) ∗ (∃ g, ⌜t.val < 14 → XpOK m c ((scM0_0).view.read (Elt Ideal) g)⌝ ∗ (View.loc (c : Thread nD τ) (scM0_0).view ↦[(scM0_0).view.set]{fullShare} g)) ∗ (∃ g, (View.loc (c : Thread nD τ) (scM0_1).view ↦[(scM0_1).view.set]{fullShare} g)) ∗ (∃ g, (View.loc (c : Thread nD τ) (scM0_2).view ↦[(scM0_2).view.set]{fullShare} g)) ∗ (∃ g, ⌜t.val < 14 → WideOK m c 0 ((scM0_3).view.read (Elt Ideal) g)⌝ ∗ (View.loc (c : Thread nD τ) (scM0_3).view ↦[(scM0_3).view.set]{fullShare} g)) ∗ (∃ g, ⌜t.val < 14 → WideOK m c 1 ((scM0_4).view.read (Elt Ideal) g)⌝ ∗ (View.loc (c : Thread nD τ) (scM0_4).view ↦[(scM0_4).view.set]{fullShare} g)) ∗ (∃ g, (View.loc (c : Thread nD τ) (scM0_5).view ↦[(scM0_5).view.set]{fullShare} g)) ∗ (∃ g, (View.loc (c : Thread nD τ) (scM0_6).view ↦[(scM0_6).view.set]{fullShare} g)) ∗ (∃ g, (View.loc (c : Thread nD τ) (scM0_7).view ↦[(scM0_7).view.set]{fullShare} g)) ∗ (∃ g, (View.loc (c : Thread nD τ) (scM0_8).view ↦[(scM0_8).view.set]{fullShare} g)) ∗ (∃ g, (View.loc (c : Thread nD τ) (scM0_9).view ↦[(scM0_9).view.set]{fullShare} g)) ∗ (∃ g, (View.loc (c : Thread nD τ) (scM0_10).view ↦[(scM0_10).view.set]{fullShare} g))) -∗ K ⟨⟩))
        ⊢ wp frame (wpE (defs₀ (F := Ideal)) Variants.none c none) E (bodyAt0 t) K

theorem hid_step (c : Dev nD) (t : Fin cfg0.N) (ht : t.val < 14) (d d' : Vec Ideal S96x14336 .bf16)
    (h : ∀ (b : Fin 96) (k : Fin 14336), d' (ix2 b k) = if k.val % 7168 / 512 = (grid0.coords t 0).val then hidAt m c b k else d (ix2 b k)) :
    HidStep m c t.val d d' := fun b k => by
  rw [h b k, coord_val]
  simp only [ht, and_true]

end Cert.KernelIdeal.Hand

end
-- ==== Proof.StepOne.lean ====
module

public import proofs.«01_k».proof.Proof.States
public import proofs.«01_k».proof.Proof.HiddenA
public import proofs.«01_k».proof.Proof.Windows

/-! The first grid point. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at the first point. -/
def firstRun (c : Dev nD) (t : Fin cfg0.N) (hcase : t.val = 0) :=
  Gen.runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

set_option maxHeartbeats 1000000 in
theorem first_hid (c : Dev nD) (t : Fin cfg0.N) (hcase : t.val = 0) (f : (ms0_25 t).view.ty.Contents (Elt Ideal)) : HidStep m c t.val ((ms0_25 t).view.read (Elt Ideal) f) ((ms0_25 t).view.read (Elt Ideal) ((ms0_25 t).view.writes (Elt Ideal) f (firstRun m c t hcase).1)) :=
  hid_step m c t (by omega) _ _ fun b k =>
    (runA_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (V m c main_arg2) (V m c main_arg3) (V m c main_arg4) (V m c main_arg9) (by rw [coord_val]; omega) (codeAll m c t (by omega)) (scaleAll m c t (by omega)) (zeroAll m c t (by omega)) (adapterAll m c t (by omega)) f b k).trans (by rw [iblk0, iblk1, iblk2, iblk19]; rfl)

set_option maxHeartbeats 1000000 in
theorem first_low (c : Dev nD) (t : Fin cfg0.N) (hcase : t.val = 0) (f27 : (ms0_26 t).view.ty.Contents (Elt Ideal)) : LowOK m c ((ms0_26 t).view.read (Elt Ideal) ((ms0_26 t).view.writes (Elt Ideal) f27 (firstRun m c t hcase).2.1)) := fun b r =>
  (runA_low_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) f27 b r).trans (by rw [iblk0, iblk1, iblk2, iblk19])

set_option maxHeartbeats 1000000 in
theorem first_xp (c : Dev nD) (t : Fin cfg0.N) (hcase : t.val = 0) (f29 : (scM0_0).view.ty.Contents (Elt Ideal)) : XpOK m c ((scM0_0).view.read (Elt Ideal) ((scM0_0).view.writes (Elt Ideal) f29 (firstRun m c t hcase).2.2.1)) := fun g b k =>
  (runA_xp_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) f29 g b k).trans (by rw [iblk0])

set_option maxHeartbeats 1000000 in
theorem first_gate (c : Dev nD) (t : Fin cfg0.N) (hcase : t.val = 0) (f32 : (scM0_3).view.ty.Contents (Elt Ideal)) : WideOK m c 0 ((scM0_3).view.read (Elt Ideal) ((scM0_3).view.writes (Elt Ideal) f32 (firstRun m c t hcase).2.2.2.2.2.1)) := fun b k =>
  (runA_mg_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) f32 b k).trans (by rw [iblk0, iblk1, iblk2, iblk19])

set_option maxHeartbeats 1000000 in
theorem first_up (c : Dev nD) (t : Fin cfg0.N) (hcase : t.val = 0) (f33 : (scM0_4).view.ty.Contents (Elt Ideal)) : WideOK m c 1 ((scM0_4).view.read (Elt Ideal) ((scM0_4).view.writes (Elt Ideal) f33 (firstRun m c t hcase).2.2.2.2.2.2.1)) := fun b k =>
  (runA_mu_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) f33 b k).trans (by rw [iblk0, iblk1, iblk2, iblk19])

set_option maxHeartbeats 4000000 in
/-- The first step: it makes the permuted activation and the low-rank values, then its own hidden columns. -/
theorem stepA (c : Dev nD) (t : Fin cfg0.N) (hcase : t.val = 0) :
    StepGoal m c t := by
  unfold StepGoal
  intro f1 f2 f3 f4 f5 f6 f7 f8 f9 f10 f11 f12 f13 f14 f15 f16 f17 f18 f19 f20 f21 f22 f23 f24 f25 f26 f27 f28 f29 f30 f31 f32 f33 f34 f35 f36 f37 f38 f39 h1 h2 h3 h4 h5 h6 h7 h8 h9 h10 h11 h12 h13 h14 h15 h16 h17 h18 h19 h20 h29 E K
  obtain rfl := (hs0_0 t).eq_unread h1
  obtain rfl := (hs0_1 t).eq_unread h2
  obtain rfl := (hs0_2 t).eq_unread h3
  obtain rfl := (hs0_3 t).eq_unread h4
  obtain rfl := (hs0_4 t).eq_unread h5
  obtain rfl := (hs0_5 t).eq_unread h6
  obtain rfl := (hs0_6 t).eq_unread h7
  obtain rfl := (hs0_7 t).eq_unread h8
  obtain rfl := (hs0_8 t).eq_unread h9
  obtain rfl := (hs0_9 t).eq_unread h10
  obtain rfl := (hs0_10 t).eq_unread h11
  obtain rfl := (hs0_11 t).eq_unread h12
  obtain rfl := (hs0_12 t).eq_unread h13
  obtain rfl := (hs0_13 t).eq_unread h14
  obtain rfl := (hs0_14 t).eq_unread h15
  obtain rfl := (hs0_15 t).eq_unread h16
  obtain rfl := (hs0_16 t).eq_unread h17
  obtain rfl := (hs0_17 t).eq_unread h18
  obtain rfl := (hs0_18 t).eq_unread h19
  obtain rfl := (hs0_19 t).eq_unread h20
  obtain ⟨x26, rfl⟩ : ∃ x, f26 = (hs0_25 t : (ms0_25 t).IsWhole).unread x := ⟨_, Memref.IsWhole.eq_unread _ rfl⟩
  obtain ⟨x30, rfl⟩ : ∃ x, f30 = (Memref.isWhole_whole _ : (scM0_1).IsWhole).unread x := ⟨_, Memref.IsWhole.eq_unread _ rfl⟩
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  iapply ((firstRun m c t hcase).2.2.2.2.2.2.2.property f21 f22 f23 f24 f25 x26 f27 f28 f29 x30 f31 f32 f33 f34 f35 f36 f37 f38 f39 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, H25, H26, H27, H28, H29, H30, H31, H32, H33, H34, H35, ⟨%g36, H36⟩, ⟨%g37, H37⟩, H38, H39⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists ((ms0_25 t).view.writes (Elt Ideal) ((hs0_25 t : (ms0_25 t).IsWhole).unread x26) (firstRun m c t hcase).1); isplitr; (· ipureintro; exact first_hid m c t hcase _); iexact H26
  isplitl [H27]; · iexists ((ms0_26 t).view.writes (Elt Ideal) f27 (firstRun m c t hcase).2.1); isplitr; (· ipureintro; exact (by unfold LowStep; rw [if_pos hcase]; exact first_low m c t hcase f27)); iexact H27
  isplitl [H28]; · iexists _; iexact H28
  isplitl [H29]; · iexists ((scM0_0).view.writes (Elt Ideal) f29 (firstRun m c t hcase).2.2.1); isplitr; (· ipureintro; exact fun _ => first_xp m c t hcase f29); iexact H29
  isplitl [H30]; · iexists _; iexact H30
  isplitl [H31]; · iexists _; iexact H31
  isplitl [H32]; · iexists ((scM0_3).view.writes (Elt Ideal) f32 (firstRun m c t hcase).2.2.2.2.2.1); isplitr; (· ipureintro; exact fun _ => first_gate m c t hcase f32); iexact H32
  isplitl [H33]; · iexists ((scM0_4).view.writes (Elt Ideal) f33 (firstRun m c t hcase).2.2.2.2.2.2.1); isplitr; (· ipureintro; exact fun _ => first_up m c t hcase f33); iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.KernelIdeal.Hand

end
-- ==== Proof.ViewB.lean ====
module

public import proofs.«01_k».proof.Proof.Prologue
public import proofs.«01_k».proof.Proof.IdealRun.RunB

/-! What a step of the first half stores, as the plain functions of the blocks it loads. -/

@[expose] public section

set_option maxRecDepth 16384

noncomputable section

namespace Cert.KernelIdeal.Hand

open Idealize.ShloMosaic Idealize.ShloMosaic.TcCoe Cert.KernelIdeal Facts₀ Facts

variable {F : FTy → Type} [FloatOps F]

variable (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : ¬ k0_cond1 i = 1#1) (hc1 : k0_cond2 i = 1#1) (hc2 : ¬ k0_cond3 i = 1#1) (hc3 : ¬ k0_cond4 i = 1#1)
    (x4 : Vec F S1792x512 .i8) (x5 : Vec F S1792x512 .i8) (x6 : Vec F S1792x512 .i8) (x7 : Vec F S1792x512 .i8) (x8 : Vec F S28x512 .bf16) (x9 : Vec F S28x512 .bf16) (x10 : Vec F S28x512 .bf16) (x11 : Vec F S28x512 .bf16) (x12 : Vec F S28x512 .i8) (x13 : Vec F S28x512 .i8) (x14 : Vec F S28x512 .i8) (x15 : Vec F S28x512 .i8) (x16 : Vec F S9x2x32x512 .bf16) (x17 : Vec F S9x2x32x512 .bf16) (x18 : Vec F S9x32x512 .bf16) (x19 : Vec F S9x32x512 .bf16) (x29 : Vec F S14x96x256 .bf16) (x31 : Vec F S256x256 .bf16) (x32 : Vec F S96x288 .bf16) (x33 : Vec F S96x288 .bf16) (x35 : Vec F S288x96 .f32)

/-- The scale block of quarter `q`. -/
def scalesB : Fin 4 → Vec F S28x512 .bf16 := ![View.readAt (Elt F) arg8.view (Rect.unit ![0, 0] S28x512.size inb_S28x512_S28x512_0_0).toLoadRect (harg8.unread x8), View.readAt (Elt F) arg9.view (Rect.unit ![0, 0] S28x512.size inb_S28x512_S28x512_0_0).toLoadRect (harg9.unread x9), View.readAt (Elt F) arg10.view (Rect.unit ![0, 0] S28x512.size inb_S28x512_S28x512_0_0).toLoadRect (harg10.unread x10), View.readAt (Elt F) arg11.view (Rect.unit ![0, 0] S28x512.size inb_S28x512_S28x512_0_0).toLoadRect (harg11.unread x11)]
/-- The zero-point block of quarter `q`. -/
def zerosB : Fin 4 → Vec F S28x512 .i8 := ![View.readAt (Elt F) arg12.view (Rect.unit ![0, 0] S28x512.size inb_S28x512_S28x512_0_0).toLoadRect (harg12.unread x12), View.readAt (Elt F) arg13.view (Rect.unit ![0, 0] S28x512.size inb_S28x512_S28x512_0_0).toLoadRect (harg13.unread x13), View.readAt (Elt F) arg14.view (Rect.unit ![0, 0] S28x512.size inb_S28x512_S28x512_0_0).toLoadRect (harg14.unread x14), View.readAt (Elt F) arg15.view (Rect.unit ![0, 0] S28x512.size inb_S28x512_S28x512_0_0).toLoadRect (harg15.unread x15)]
/-- The codes of quarter `q`, half `h`, group pair `g`. -/
def codesB (q : Fin 4) (h : Fin 2) (g : Fin 14) : Vec F S128x256 .i8 :=
  (![View.readAt (Elt F) arg4.view (codeAt h g).toLoadRect (harg4.unread x4), View.readAt (Elt F) arg5.view (codeAt h g).toLoadRect (harg5.unread x5), View.readAt (Elt F) arg6.view (codeAt h g).toLoadRect (harg6.unread x6), View.readAt (Elt F) arg7.view (codeAt h g).toLoadRect (harg7.unread x7)] : Fin 4 → Vec F S128x256 .i8) q
/-- Adapter `n`'s rows for half `w`, projection `t`, column half `h`. -/
def adaptersB (w t h : Fin 2) (n : Fin 9) : Vec F S1x1x32x256 .bf16 :=
  (![View.readAt (Elt F) arg16.view (adapterAt t h n).toLoadRect (harg16.unread x16), View.readAt (Elt F) arg17.view (adapterAt t h n).toLoadRect (harg17.unread x17)] : Fin 2 → Vec F S1x1x32x256 .bf16) w

theorem runB_r_7 : (Gen.runB.sl.r_7 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 0 0) := rfl

theorem runB_r_8 : (Gen.runB.sl.r_8 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 0 0) := rfl

theorem runB_r_43 : (Gen.runB.sl.r_43 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 2 0) := rfl

theorem runB_r_44 : (Gen.runB.sl.r_44 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 2 0) := rfl

theorem runB_r_71 : (Gen.runB.sl.r_71 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 1 0) := rfl

theorem runB_r_72 : (Gen.runB.sl.r_72 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 1 0) := rfl

theorem runB_r_100 : (Gen.runB.sl.r_100 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 3 0) := rfl

theorem runB_r_101 : (Gen.runB.sl.r_101 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 3 0) := rfl

theorem runB_r_136 : (Gen.runB.sl.r_136 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 0 1) := rfl

theorem runB_r_137 : (Gen.runB.sl.r_137 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 0 1) := rfl

theorem runB_r_167 : (Gen.runB.sl.r_167 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 2 1) := rfl

theorem runB_r_168 : (Gen.runB.sl.r_168 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 2 1) := rfl

theorem runB_r_198 : (Gen.runB.sl.r_198 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 1 1) := rfl

theorem runB_r_199 : (Gen.runB.sl.r_199 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 1 1) := rfl

theorem runB_r_228 : (Gen.runB.sl.r_228 arg8 harg8 arg9 harg9 arg10 harg10 arg11 harg11 arg36 x8 x9 x10 x11) = pairRows (slabHalf arg36 (fun q => Gen.k0_pay50 ((scalesB arg8 harg8 arg9 harg9 arg10 harg10 arg11 harg11 x8 x9 x10 x11) q)) 3 1) := rfl

theorem runB_r_229 : (Gen.runB.sl.r_229 arg12 harg12 arg13 harg13 arg14 harg14 arg15 harg15 arg37 x12 x13 x14 x15) = pairRows (slabHalf arg37 (fun q => Gen.k0_pay51 ((zerosB arg12 harg12 arg13 harg13 arg14 harg14 arg15 harg15 x12 x13 x14 x15) q)) 3 1) := rfl

set_option maxHeartbeats 4000000 in
theorem runB_raw : (Gen.runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x4 x5 x6 x7 x8 x9 x10 x11 x12 x13 x14 x15 x16 x17 x18 x19 x29 x31 x32 x33 x35).1 = [⟨Rect.unit (k0_off1 i 7168#32 256#32) S96x256.size (k0_off1_inb i hc1 1 1), (hidden (proj (Gen.runB.sl.r_198 arg8 harg8 arg9 harg9 arg10 harg10 arg11 harg11 arg36 x8 x9 x10 x11) (Gen.runB.sl.r_199 arg12 harg12 arg13 harg13 arg14 harg14 arg15 harg15 arg37 x12 x13 x14 x15) (fun g => View.readAt (Elt F) arg29.view (xpAt g).toLoadRect (harg29.unread x29)) (fun g => View.readAt (Elt F) arg5.view (codeAt 1 g).toLoadRect (harg5.unread x5)) (View.readAt (Elt F) arg32.view (Rect.unit ![0, 0] S96x288.size inb_S96x288_S96x288_0_0).toLoadRect (harg32.unread x32)) (fun n => View.readAt (Elt F) arg17.view (adapterAt 0 1 n).toLoadRect (harg17.unread x17))) (proj (Gen.runB.sl.r_228 arg8 harg8 arg9 harg9 arg10 harg10 arg11 harg11 arg36 x8 x9 x10 x11) (Gen.runB.sl.r_229 arg12 harg12 arg13 harg13 arg14 harg14 arg15 harg15 arg37 x12 x13 x14 x15) (fun g => View.readAt (Elt F) arg29.view (xpAt g).toLoadRect (harg29.unread x29)) (fun g => View.readAt (Elt F) arg7.view (codeAt 1 g).toLoadRect (harg7.unread x7)) (View.readAt (Elt F) arg33.view (Rect.unit ![0, 0] S96x288.size inb_S96x288_S96x288_0_0).toLoadRect (harg33.unread x33)) (fun n => View.readAt (Elt F) arg17.view (adapterAt 1 1 n).toLoadRect (harg17.unread x17))))⟩, ⟨Rect.unit (k0_off1 i 0#32 256#32) S96x256.size (k0_off1_inb i hc1 0 1), (hidden (proj (Gen.runB.sl.r_136 arg8 harg8 arg9 harg9 arg10 harg10 arg11 harg11 arg36 x8 x9 x10 x11) (Gen.runB.sl.r_137 arg12 harg12 arg13 harg13 arg14 harg14 arg15 harg15 arg37 x12 x13 x14 x15) (fun g => View.readAt (Elt F) arg29.view (xpAt g).toLoadRect (harg29.unread x29)) (fun g => View.readAt (Elt F) arg4.view (codeAt 1 g).toLoadRect (harg4.unread x4)) (View.readAt (Elt F) arg32.view (Rect.unit ![0, 0] S96x288.size inb_S96x288_S96x288_0_0).toLoadRect (harg32.unread x32)) (fun n => View.readAt (Elt F) arg16.view (adapterAt 0 1 n).toLoadRect (harg16.unread x16))) (proj (Gen.runB.sl.r_167 arg8 harg8 arg9 harg9 arg10 harg10 arg11 harg11 arg36 x8 x9 x10 x11) (Gen.runB.sl.r_168 arg12 harg12 arg13 harg13 arg14 harg14 arg15 harg15 arg37 x12 x13 x14 x15) (fun g => View.readAt (Elt F) arg29.view (xpAt g).toLoadRect (harg29.unread x29)) (fun g => View.readAt (Elt F) arg6.view (codeAt 1 g).toLoadRect (harg6.unread x6)) (View.readAt (Elt F) arg33.view (Rect.unit ![0, 0] S96x288.size inb_S96x288_S96x288_0_0).toLoadRect (harg33.unread x33)) (fun n => View.readAt (Elt F) arg16.view (adapterAt 1 1 n).toLoadRect (harg16.unread x16))))⟩, ⟨Rect.unit (k0_off1 i 7168#32 0#32) S96x256.size (k0_off1_inb i hc1 1 0), (hidden (proj (Gen.runB.sl.r_71 arg8 harg8 arg9 harg9 arg10 harg10 arg11 harg11 arg36 x8 x9 x10 x11) (Gen.runB.sl.r_72 arg12 harg12 arg13 harg13 arg14 harg14 arg15 harg15 arg37 x12 x13 x14 x15) (fun g => View.readAt (Elt F) arg29.view (xpAt g).toLoadRect (harg29.unread x29)) (fun g => View.readAt (Elt F) arg5.view (codeAt 0 g).toLoadRect (harg5.unread x5)) (View.readAt (Elt F) arg32.view (Rect.unit ![0, 0] S96x288.size inb_S96x288_S96x288_0_0).toLoadRect (harg32.unread x32)) (fun n => View.readAt (Elt F) arg17.view (adapterAt 0 0 n).toLoadRect (harg17.unread x17))) (proj (Gen.runB.sl.r_100 arg8 harg8 arg9 harg9 arg10 harg10 arg11 harg11 arg36 x8 x9 x10 x11) (Gen.runB.sl.r_101 arg12 harg12 arg13 harg13 arg14 harg14 arg15 harg15 arg37 x12 x13 x14 x15) (fun g => View.readAt (Elt F) arg29.view (xpAt g).toLoadRect (harg29.unread x29)) (fun g => View.readAt (Elt F) arg7.view (codeAt 0 g).toLoadRect (harg7.unread x7)) (View.readAt (Elt F) arg33.view (Rect.unit ![0, 0] S96x288.size inb_S96x288_S96x288_0_0).toLoadRect (harg33.unread x33)) (fun n => View.readAt (Elt F) arg17.view (adapterAt 1 0 n).toLoadRect (harg17.unread x17))))⟩, ⟨Rect.unit (k0_off1 i 0#32 0#32) S96x256.size (k0_off1_inb i hc1 0 0), (hidden (proj (Gen.runB.sl.r_7 arg8 harg8 arg9 harg9 arg10 harg10 arg11 harg11 arg36 x8 x9 x10 x11) (Gen.runB.sl.r_8 arg12 harg12 arg13 harg13 arg14 harg14 arg15 harg15 arg37 x12 x13 x14 x15) (fun g => View.readAt (Elt F) arg29.view (xpAt g).toLoadRect (harg29.unread x29)) (fun g => View.readAt (Elt F) arg4.view (codeAt 0 g).toLoadRect (harg4.unread x4)) (View.readAt (Elt F) arg32.view (Rect.unit ![0, 0] S96x288.size inb_S96x288_S96x288_0_0).toLoadRect (harg32.unread x32)) (fun n => View.readAt (Elt F) arg16.view (adapterAt 0 0 n).toLoadRect (harg16.unread x16))) (proj (Gen.runB.sl.r_43 arg8 harg8 arg9 harg9 arg10 harg10 arg11 harg11 arg36 x8 x9 x10 x11) (Gen.runB.sl.r_44 arg12 harg12 arg13 harg13 arg14 harg14 arg15 harg15 arg37 x12 x13 x14 x15) (fun g => View.readAt (Elt F) arg29.view (xpAt g).toLoadRect (harg29.unread x29)) (fun g => View.readAt (Elt F) arg6.view (codeAt 0 g).toLoadRect (harg6.unread x6)) (View.readAt (Elt F) arg33.view (Rect.unit ![0, 0] S96x288.size inb_S96x288_S96x288_0_0).toLoadRect (harg33.unread x33)) (fun n => View.readAt (Elt F) arg16.view (adapterAt 1 0 n).toLoadRect (harg16.unread x16))))⟩] := rfl

set_option maxHeartbeats 4000000 in
theorem runB_hidden : (Gen.runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x4 x5 x6 x7 x8 x9 x10 x11 x12 x13 x14 x15 x16 x17 x18 x19 x29 x31 x32 x33 x35).1 = blocks i hc1 (blockOf arg36 arg37 (fun g => View.readAt (Elt F) arg29.view (xpAt g).toLoadRect (harg29.unread x29)) ![View.readAt (Elt F) arg32.view (Rect.unit ![0, 0] S96x288.size inb_S96x288_S96x288_0_0).toLoadRect (harg32.unread x32), View.readAt (Elt F) arg33.view (Rect.unit ![0, 0] S96x288.size inb_S96x288_S96x288_0_0).toLoadRect (harg33.unread x33)]
    (scalesB arg8 harg8 arg9 harg9 arg10 harg10 arg11 harg11 x8 x9 x10 x11) (zerosB arg12 harg12 arg13 harg13 arg14 harg14 arg15 harg15 x12 x13 x14 x15) (codesB arg4 harg4 arg5 harg5 arg6 harg6 arg7 harg7 x4 x5 x6 x7) (adaptersB arg16 harg16 arg17 harg17 x16 x17)) := by
  rw [runB_raw, runB_r_7, runB_r_8, runB_r_43, runB_r_44, runB_r_136, runB_r_137, runB_r_167, runB_r_168, runB_r_71, runB_r_72, runB_r_100, runB_r_101, runB_r_198, runB_r_199, runB_r_228, runB_r_229]
  rfl

end Cert.KernelIdeal.Hand

end
-- ==== Proof.HiddenB.lean ====
module

public import proofs.«01_k».proof.Proof.StepA
public import proofs.«01_k».proof.Proof.ViewB

/-! What a later gate-up step stores of the hidden activation, entry by entry. -/

@[expose] public section

set_option maxRecDepth 16384

noncomputable section

namespace Cert.KernelIdeal.Hand

open Idealize.ShloMosaic Idealize.ShloMosaic.TcCoe Idealize.ShloMosaic.Tactic Cert.KernelIdeal Facts₀ Facts

/-- A load of a row block of the permuted activation. -/
theorem xp_load (m : Memref sig .tc .vmem S14x96x256 .bf16) (hm : m.IsWhole) (x : Vec Ideal S14x96x256 .bf16) (g : Fin 14) (b : Fin 96) (k : Fin 256) :
    View.readAt (Elt Ideal) m.view (xpAt g).toLoadRect (hm.unread x) (ix3 (0 : Fin 1) b k) = x (ix3 g b k) :=
  (readWhole m hm _ x _).trans (congrArg x (funext fun a => Fin.ext (by
    match a with
    | ⟨0, _⟩ => show g.val + 1 * 0 = g.val; omega
    | ⟨1, _⟩ => show 0 + 1 * b.val = b.val; omega
    | ⟨2, _⟩ => show 0 + 1 * k.val = k.val; omega)))

variable (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : ¬ k0_cond1 i = 1#1) (hc1 : k0_cond2 i = 1#1) (hc2 : ¬ k0_cond3 i = 1#1) (hc3 : ¬ k0_cond4 i = 1#1)
    (x4 : Vec Ideal S1792x512 .i8) (x5 : Vec Ideal S1792x512 .i8) (x6 : Vec Ideal S1792x512 .i8) (x7 : Vec Ideal S1792x512 .i8) (x8 : Vec Ideal S28x512 .bf16) (x9 : Vec Ideal S28x512 .bf16) (x10 : Vec Ideal S28x512 .bf16) (x11 : Vec Ideal S28x512 .bf16) (x12 : Vec Ideal S28x512 .i8) (x13 : Vec Ideal S28x512 .i8) (x14 : Vec Ideal S28x512 .i8) (x15 : Vec Ideal S28x512 .i8) (x16 : Vec Ideal S9x2x32x512 .bf16) (x17 : Vec Ideal S9x2x32x512 .bf16) (x18 : Vec Ideal S9x32x512 .bf16) (x19 : Vec Ideal S9x32x512 .bf16) (x29 : Vec Ideal S14x96x256 .bf16) (x31 : Vec Ideal S256x256 .bf16) (x32 : Vec Ideal S96x288 .bf16) (x33 : Vec Ideal S96x288 .bf16) (x35 : Vec Ideal S288x96 .f32)

theorem scalesB_eq : scalesB (F := Ideal) arg8 harg8 arg9 harg9 arg10 harg10 arg11 harg11 x8 x9 x10 x11 = ![x8, x9, x10, x11] := by
  unfold scalesB
  rw [readAll, readAll, readAll, readAll]

theorem zerosB_eq : zerosB (F := Ideal) arg12 harg12 arg13 harg13 arg14 harg14 arg15 harg15 x12 x13 x14 x15 = ![x12, x13, x14, x15] := by
  unfold zerosB
  rw [readAll, readAll, readAll, readAll]

theorem codesB_apply (h : Fin 2) (g : Fin 14) (r : Fin 128) (j : Fin 256) : (q : Fin 4) →
    codesB (F := Ideal) arg4 harg4 arg5 harg5 arg6 harg6 arg7 harg7 x4 x5 x6 x7 q h g (ix2 r j)
      = (![x4, x5, x6, x7] : Fin 4 → Vec Ideal S1792x512 .i8) q (ix2 (⟨128 * g.val + r.val, by omega⟩ : Fin 1792) (⟨256 * h.val + j.val, by omega⟩ : Fin 512))
  | 0 => code_load arg4 harg4 x4 h g r j
  | 1 => code_load arg5 harg5 x5 h g r j
  | 2 => code_load arg6 harg6 x6 h g r j
  | 3 => code_load arg7 harg7 x7 h g r j

theorem adaptersB_apply (p h : Fin 2) (n : Fin 9) (r : Fin 32) (j : Fin 256) : (w : Fin 2) →
    adaptersB (F := Ideal) arg16 harg16 arg17 harg17 x16 x17 w p h n (ix4 (0 : Fin 1) (0 : Fin 1) r j)
      = (![x16, x17] : Fin 2 → Vec Ideal S9x2x32x512 .bf16) w (ix4 n p r (⟨256 * h.val + j.val, by omega⟩ : Fin 512))
  | 0 => adapter_load arg16 harg16 x16 p h n r j
  | 1 => adapter_load arg17 harg17 x17 p h n r j

set_option maxHeartbeats 1000000 in
/-- A step leaves its own columns of the hidden activation and keeps the others. -/
theorem runB_read
    (X : Vec Ideal S96x3584 .bf16) (I : Vec Ideal S1x96 .i32) (SC : Vec Ideal S9 .f32) (G : Vec Ideal S576x3584 .bf16)
    (h29 : ∀ g b k, x29 (ix3 g b k) = xpOf X g b k) (h32 : ∀ b k, x32 (ix2 b k) = wideOf X I SC G 0 b k) (h33 : ∀ b k, x33 (ix2 b k) = wideOf X I SC G 1 b k) (A2 : Vec Ideal S1792x28672 .i8) (A3 : Vec Ideal S28x28672 .bf16) (A4 : Vec Ideal S28x28672 .i8) (A9 : Vec Ideal S9x2x32x14336 .bf16)
    (ht : (i 0).val < 14)
    (hv : ∀ (k : Fin 1792) (j : Fin 512) (q : Fin 4), (![x4, x5, x6, x7] : Fin 4 → Vec Ideal S1792x512 .i8) q (ix2 k j) = A2 (ix2 k (⟨7168 * q.val + 512 * (i 0).val + j.val, by omega⟩ : Fin 28672)))
    (hs : ∀ (k : Fin 28) (j : Fin 512) (q : Fin 4), (![x8, x9, x10, x11] : Fin 4 → Vec Ideal S28x512 .bf16) q (ix2 k j) = A3 (ix2 k (⟨7168 * q.val + 512 * (i 0).val + j.val, by omega⟩ : Fin 28672)))
    (hz : ∀ (k : Fin 28) (j : Fin 512) (q : Fin 4), (![x12, x13, x14, x15] : Fin 4 → Vec Ideal S28x512 .i8) q (ix2 k j) = A4 (ix2 k (⟨7168 * q.val + 512 * (i 0).val + j.val, by omega⟩ : Fin 28672)))
    (ha : ∀ (n : Fin 9) (p : Fin 2) (r : Fin 32) (j : Fin 512) (w : Fin 2), (![x16, x17] : Fin 2 → Vec Ideal S9x2x32x512 .bf16) w (ix4 n p r j) = A9 (ix4 n p r (⟨7168 * w.val + 512 * (i 0).val + j.val, by omega⟩ : Fin 14336)))
    (f : arg26.view.ty.Contents (Elt Ideal)) (b : Fin 96) (k : Fin 14336) :
    arg26.view.read (Elt Ideal) (arg26.view.writes (Elt Ideal) f (Gen.runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 hc0 hc1 hc2 hc3 x4 x5 x6 x7 x8 x9 x10 x11 x12 x13 x14 x15 x16 x17 x18 x19 x29 x31 x32 x33 x35).1) (ix2 b k)
      = if k.val % 7168 / 512 = (i 0).val then hiddenOf X I SC G A2 A3 A4 A9 b k else arg26.view.read (Elt Ideal) f (ix2 b k) := by
  rw [runB_hidden]
  refine blocks_read arg26.view f i hc1 ht _ b (hiddenOf X I SC G A2 A3 A4 A9) (fun w h j => ?_) k
  refine blockOf_apply X I SC G A2 A3 A4 A9 arg36 arg37 _ _ _ _ _ _ (i 0).val ht (fun g b k => (xp_load arg29 harg29 x29 g b k).trans (h29 g b k))
    (fun p b k => by
        match p with
        | 0 => exact (congrFun (readAll arg32 harg32 _ _ x32) _).trans (h32 b k)
        | 1 => exact (congrFun (readAll arg33 harg33 _ _ x33) _).trans (h33 b k))
    (fun k j q => (congrFun (congrFun (scalesB_eq arg8 harg8 arg9 harg9 arg10 harg10 arg11 harg11 x8 x9 x10 x11) q) _).trans (hs k j q))
    (fun k j q => (congrFun (congrFun (zerosB_eq arg12 harg12 arg13 harg13 arg14 harg14 arg15 harg15 x12 x13 x14 x15) q) _).trans (hz k j q))
    (fun q h g r j => (codesB_apply arg4 harg4 arg5 harg5 arg6 harg6 arg7 harg7 x4 x5 x6 x7 h g r j q).trans (hv _ _ q))
    (fun w p h n r j => (adaptersB_apply arg16 harg16 arg17 harg17 x16 x17 p h n r j w).trans ((ha n p r _ w).trans (congrArg A9 (congrArg (ix4 n p r) (Fin.ext (by simp only [colOf]; omega))))))
    w h b j

end Cert.KernelIdeal.Hand

end
-- ==== Proof.StepB.lean ====
module

public import proofs.«01_k».proof.Proof.States
public import proofs.«01_k».proof.Proof.HiddenB
public import proofs.«01_k».proof.Proof.Windows

/-! The later gate-up points. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The body at a later gate-up point. -/
def laterRun (c : Dev nD) (t : Fin cfg0.N) (hcase : 1 ≤ t.val ∧ t.val < 14) (x29 : Vec Ideal S14x96x256 .bf16) (x31 : Vec Ideal S256x256 .bf16) (x32 : Vec Ideal S96x288 .bf16) (x33 : Vec Ideal S96x288 .bf16) (x35 : Vec Ideal S288x96 .f32) :=
  Gen.runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) (fun h => absurd ((hcond0_0 t).mp h) (by omega)) ((hcond0_1 t).mpr (by omega)) (fun h => absurd ((hcond0_2 t).mp h) (by omega)) (fun h => absurd ((hcond0_3 t).mp h) (by omega)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) x29 x31 x32 x33 x35

set_option maxHeartbeats 1000000 in
theorem later_hid (c : Dev nD) (t : Fin cfg0.N) (hcase : 1 ≤ t.val ∧ t.val < 14) (x29 : Vec Ideal S14x96x256 .bf16) (x31 : Vec Ideal S256x256 .bf16) (x32 : Vec Ideal S96x288 .bf16) (x33 : Vec Ideal S96x288 .bf16) (x35 : Vec Ideal S288x96 .f32) (h29 : XpOK m c x29) (h32 : WideOK m c 0 x32) (h33 : WideOK m c 1 x33) (f : (ms0_25 t).view.ty.Contents (Elt Ideal)) : HidStep m c t.val ((ms0_25 t).view.read (Elt Ideal) f) ((ms0_25 t).view.read (Elt Ideal) ((ms0_25 t).view.writes (Elt Ideal) f (laterRun m c t hcase x29 x31 x32 x33 x35).1)) :=
  hid_step m c t (by omega) _ _ fun b k =>
    runB_read c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) (fun h => absurd ((hcond0_0 t).mp h) (by omega)) ((hcond0_1 t).mpr (by omega)) (fun h => absurd ((hcond0_2 t).mp h) (by omega)) (fun h => absurd ((hcond0_3 t).mp h) (by omega)) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) x29 x31 x32 x33 x35 (V m c main_v0) (V m c main_v1) (V m c main_arg12) (V m c main_v3) h29 h32 h33 (V m c main_arg2) (V m c main_arg3) (V m c main_arg4) (V m c main_arg9) (by rw [coord_val]; omega) (codeAll m c t (by omega)) (scaleAll m c t (by omega)) (zeroAll m c t (by omega)) (adapterAll m c t (by omega)) f b k

set_option maxHeartbeats 4000000 in
/-- A later gate-up step: it keeps the prepared arrays and stores its own hidden columns. -/
theorem stepB (c : Dev nD) (t : Fin cfg0.N) (hcase : 1 ≤ t.val ∧ t.val < 14) :
    StepGoal m c t := by
  unfold StepGoal
  intro f1 f2 f3 f4 f5 f6 f7 f8 f9 f10 f11 f12 f13 f14 f15 f16 f17 f18 f19 f20 f21 f22 f23 f24 f25 f26 f27 f28 f29 f30 f31 f32 f33 f34 f35 f36 f37 f38 f39 h1 h2 h3 h4 h5 h6 h7 h8 h9 h10 h11 h12 h13 h14 h15 h16 h17 h18 h19 h20 h29 E K
  obtain rfl := (hs0_3 t).eq_unread h4
  obtain rfl := (hs0_4 t).eq_unread h5
  obtain rfl := (hs0_5 t).eq_unread h6
  obtain rfl := (hs0_6 t).eq_unread h7
  obtain rfl := (hs0_7 t).eq_unread h8
  obtain rfl := (hs0_8 t).eq_unread h9
  obtain rfl := (hs0_9 t).eq_unread h10
  obtain rfl := (hs0_10 t).eq_unread h11
  obtain rfl := (hs0_11 t).eq_unread h12
  obtain rfl := (hs0_12 t).eq_unread h13
  obtain rfl := (hs0_13 t).eq_unread h14
  obtain rfl := (hs0_14 t).eq_unread h15
  obtain rfl := (hs0_15 t).eq_unread h16
  obtain rfl := (hs0_16 t).eq_unread h17
  obtain rfl := (hs0_17 t).eq_unread h18
  obtain rfl := (hs0_18 t).eq_unread h19
  obtain ⟨x26, rfl⟩ : ∃ x, f26 = (hs0_25 t : (ms0_25 t).IsWhole).unread x := ⟨_, Memref.IsWhole.eq_unread _ rfl⟩
  obtain ⟨x29, rfl⟩ : ∃ x, f29 = (Memref.isWhole_whole _ : (scM0_0).IsWhole).unread x := ⟨_, Memref.IsWhole.eq_unread _ rfl⟩
  obtain ⟨x30, rfl⟩ : ∃ x, f30 = (Memref.isWhole_whole _ : (scM0_1).IsWhole).unread x := ⟨_, Memref.IsWhole.eq_unread _ rfl⟩
  obtain ⟨x31, rfl⟩ : ∃ x, f31 = (Memref.isWhole_whole _ : (scM0_2).IsWhole).unread x := ⟨_, Memref.IsWhole.eq_unread _ rfl⟩
  obtain ⟨x32, rfl⟩ : ∃ x, f32 = (Memref.isWhole_whole _ : (scM0_3).IsWhole).unread x := ⟨_, Memref.IsWhole.eq_unread _ rfl⟩
  obtain ⟨x33, rfl⟩ : ∃ x, f33 = (Memref.isWhole_whole _ : (scM0_4).IsWhole).unread x := ⟨_, Memref.IsWhole.eq_unread _ rfl⟩
  obtain ⟨x35, rfl⟩ : ∃ x, f35 = (Memref.isWhole_whole _ : (scM0_6).IsWhole).unread x := ⟨_, Memref.IsWhole.eq_unread _ rfl⟩
  have k29 := h29 hcase.1 hcase.2
  rw [Memref.IsWhole.read_unread, Memref.IsWhole.read_unread, Memref.IsWhole.read_unread] at k29
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  iapply ((laterRun m c t hcase x29 x31 x32 x33 x35).2.2.property f1 f2 f3 f20 f21 f22 f23 f24 f25 x26 f27 f28 x30 f34 f36 f37 f38 f39 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, H25, H26, H27, H28, H29, H30, H31, H32, H33, H34, H35, ⟨%g36, H36⟩, ⟨%g37, H37⟩, H38, H39⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists ((ms0_25 t).view.writes (Elt Ideal) ((hs0_25 t : (ms0_25 t).IsWhole).unread x26) (laterRun m c t hcase x29 x31 x32 x33 x35).1); isplitr; (· ipureintro; exact later_hid m c t hcase x29 x31 x32 x33 x35 k29.1 k29.2.1 k29.2.2 _); iexact H26
  isplitl [H27]; · iexists (f27); isplitr; (· ipureintro; exact (by unfold LowStep; rw [if_neg (by omega)])); iexact H27
  isplitl [H28]; · iexists _; iexact H28
  isplitl [H29]; · iexists (((Memref.isWhole_whole _ : (scM0_0).IsWhole).unread x29)); isplitr; (· ipureintro; exact fun _ => (h29 hcase.1 hcase.2).1); iexact H29
  isplitl [H30]; · iexists _; iexact H30
  isplitl [H31]; · iexists _; iexact H31
  isplitl [H32]; · iexists (((Memref.isWhole_whole _ : (scM0_3).IsWhole).unread x32)); isplitr; (· ipureintro; exact fun _ => (h29 hcase.1 hcase.2).2.1); iexact H32
  isplitl [H33]; · iexists (((Memref.isWhole_whole _ : (scM0_4).IsWhole).unread x33)); isplitr; (· ipureintro; exact fun _ => (h29 hcase.1 hcase.2).2.2); iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.KernelIdeal.Hand

end
-- ==== Proof.IdealKeepRun.RunD.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The run of the kernel's body from point fifteen on: the down half. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9000000 in
/-- The body runs from point fifteen on: the down half: the buffers it does not touch keep their contents. -/
theorem runD (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : ¬ k0_cond1 i = 1#1) (hc1 : ¬ k0_cond2 i = 1#1) (hc2 : ¬ k0_cond3 i = 1#1) (hc3 : k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (View.loc (c : Thread nD τ) arg26.view ↦[arg26.view.set]{fullShare} f26) ∗ (View.loc (c : Thread nD τ) arg27.view ↦[arg27.view.set]{fullShare} f27) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.KernelIdeal.Gen

end
-- ==== Proof.IdealKeepRun.RunC.lean ====
module

public import proofs.«01_k».proof.Proof.IdealKeepRun.RunD

/-! The run of the kernel's body at point fourteen: the middle stage, then the down half. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 9000000 in
/-- The body runs at point fourteen: the middle stage, then the down half: the buffers it does not touch keep their contents. -/
theorem runC (c : Dev nD) (i : grid0.Coords) (arg1 : Memref sig .tc .vmem S96x3584 .bf16) (harg1 : arg1.IsWhole) (arg2 : Memref sig .tc .vmem S1x96 .i32) (harg2 : arg2.IsWhole) (arg3 : Memref sig .tc .smem S9 .f32) (harg3 : arg3.IsWhole) (arg4 : Memref sig .tc .vmem S1792x512 .i8) (harg4 : arg4.IsWhole) (arg5 : Memref sig .tc .vmem S1792x512 .i8) (harg5 : arg5.IsWhole) (arg6 : Memref sig .tc .vmem S1792x512 .i8) (harg6 : arg6.IsWhole) (arg7 : Memref sig .tc .vmem S1792x512 .i8) (harg7 : arg7.IsWhole) (arg8 : Memref sig .tc .vmem S28x512 .bf16) (harg8 : arg8.IsWhole) (arg9 : Memref sig .tc .vmem S28x512 .bf16) (harg9 : arg9.IsWhole) (arg10 : Memref sig .tc .vmem S28x512 .bf16) (harg10 : arg10.IsWhole) (arg11 : Memref sig .tc .vmem S28x512 .bf16) (harg11 : arg11.IsWhole) (arg12 : Memref sig .tc .vmem S28x512 .i8) (harg12 : arg12.IsWhole) (arg13 : Memref sig .tc .vmem S28x512 .i8) (harg13 : arg13.IsWhole) (arg14 : Memref sig .tc .vmem S28x512 .i8) (harg14 : arg14.IsWhole) (arg15 : Memref sig .tc .vmem S28x512 .i8) (harg15 : arg15.IsWhole) (arg16 : Memref sig .tc .vmem S9x2x32x512 .bf16) (harg16 : arg16.IsWhole) (arg17 : Memref sig .tc .vmem S9x2x32x512 .bf16) (harg17 : arg17.IsWhole) (arg18 : Memref sig .tc .vmem S9x32x512 .bf16) (harg18 : arg18.IsWhole) (arg19 : Memref sig .tc .vmem S9x32x512 .bf16) (harg19 : arg19.IsWhole) (arg20 : Memref sig .tc .vmem S576x3584 .bf16) (harg20 : arg20.IsWhole) (arg21 : Memref sig .tc .vmem S7168x512 .i8) (harg21 : arg21.IsWhole) (arg22 : Memref sig .tc .vmem S112x512 .bf16) (harg22 : arg22.IsWhole) (arg23 : Memref sig .tc .vmem S112x512 .i8) (harg23 : arg23.IsWhole) (arg24 : Memref sig .tc .vmem S9x32x512 .bf16) (harg24 : arg24.IsWhole) (arg25 : Memref sig .tc .vmem S96x512 .bf16) (harg25 : arg25.IsWhole) (arg26 : Memref sig .tc .vmem S96x14336 .bf16) (harg26 : arg26.IsWhole) (arg27 : Memref sig .tc .vmem S96x64 .bf16) (harg27 : arg27.IsWhole) (arg28 : Memref sig .tc .vmem S96x32 .bf16) (harg28 : arg28.IsWhole) (arg29 : Memref sig .tc .vmem S14x96x256 .bf16) (harg29 : arg29.IsWhole) (arg30 : Memref sig .tc .vmem S56x96x256 .bf16) (harg30 : arg30.IsWhole) (arg31 : Memref sig .tc .vmem S256x256 .bf16) (harg31 : arg31.IsWhole) (arg32 : Memref sig .tc .vmem S96x288 .bf16) (harg32 : arg32.IsWhole) (arg33 : Memref sig .tc .vmem S96x288 .bf16) (harg33 : arg33.IsWhole) (arg34 : Memref sig .tc .vmem S96x288 .bf16) (harg34 : arg34.IsWhole) (arg35 : Memref sig .tc .vmem S288x96 .f32) (harg35 : arg35.IsWhole) (arg36 : Memref sig .tc .vmem S4x14x2x512 .bf16) (harg36 : arg36.IsWhole) (arg37 : Memref sig .tc .vmem S4x14x2x512 .bf16) (harg37 : arg37.IsWhole) (arg38 : Memref sig .tc .vmem S56x2x512 .bf16) (harg38 : arg38.IsWhole) (arg39 : Memref sig .tc .vmem S56x2x512 .bf16) (harg39 : arg39.IsWhole)
    (hc0 : ¬ k0_cond1 i = 1#1) (hc1 : ¬ k0_cond2 i = 1#1) (hc2 : k0_cond3 i = 1#1) (hc3 : k0_cond4 i = 1#1) :
      ∀ (f1 : arg1.view.ty.Contents (Elt F)) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (f24 : arg24.view.ty.Contents (Elt F)) (f25 : arg25.view.ty.Contents (Elt F)) (f26 : arg26.view.ty.Contents (Elt F)) (f27 : arg27.view.ty.Contents (Elt F)) (f28 : arg28.view.ty.Contents (Elt F)) (f29 : arg29.view.ty.Contents (Elt F)) (f30 : arg30.view.ty.Contents (Elt F)) (f31 : arg31.view.ty.Contents (Elt F)) (f32 : arg32.view.ty.Contents (Elt F)) (f33 : arg33.view.ty.Contents (Elt F)) (f34 : arg34.view.ty.Contents (Elt F)) (f35 : arg35.view.ty.Contents (Elt F)) (f36 : arg36.view.ty.Contents (Elt F)) (f37 : arg37.view.ty.Contents (Elt F)) (f38 : arg38.view.ty.Contents (Elt F)) (f39 : arg39.view.ty.Contents (Elt F)) (E : Set ℕ) (K : PUnit → sProp 𝕄),
        iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (View.loc (c : Thread nD τ) arg25.view ↦[arg25.view.set]{fullShare} f25) ∗ (View.loc (c : Thread nD τ) arg26.view ↦[arg26.view.set]{fullShare} f26) ∗ (View.loc (c : Thread nD τ) arg27.view ↦[arg27.view.set]{fullShare} f27) ∗ (View.loc (c : Thread nD τ) arg28.view ↦[arg28.view.set]{fullShare} f28) ∗ (View.loc (c : Thread nD τ) arg29.view ↦[arg29.view.set]{fullShare} f29) ∗ (View.loc (c : Thread nD τ) arg30.view ↦[arg30.view.set]{fullShare} f30) ∗ (View.loc (c : Thread nD τ) arg31.view ↦[arg31.view.set]{fullShare} f31) ∗ (View.loc (c : Thread nD τ) arg32.view ↦[arg32.view.set]{fullShare} f32) ∗ (View.loc (c : Thread nD τ) arg33.view ↦[arg33.view.set]{fullShare} f33) ∗ (View.loc (c : Thread nD τ) arg34.view ↦[arg34.view.set]{fullShare} f34) ∗ (View.loc (c : Thread nD τ) arg35.view ↦[arg35.view.set]{fullShare} f35) ∗ (View.loc (c : Thread nD τ) arg36.view ↦[arg36.view.set]{fullShare} f36) ∗ (View.loc (c : Thread nD τ) arg37.view ↦[arg37.view.set]{fullShare} f37) ∗ (View.loc (c : Thread nD τ) arg38.view ↦[arg38.view.set]{fullShare} f38) ∗ (View.loc (c : Thread nD τ) arg39.view ↦[arg39.view.set]{fullShare} f39)
            ∗ (iprop((View.loc (c : Thread nD τ) arg1.view ↦[arg1.view.set]{fullShare} f1) ∗ (View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg5.view ↦[arg5.view.set]{fullShare} f5) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg17.view ↦[arg17.view.set]{fullShare} f17) ∗ (View.loc (c : Thread nD τ) arg18.view ↦[arg18.view.set]{fullShare} f18) ∗ (View.loc (c : Thread nD τ) arg19.view ↦[arg19.view.set]{fullShare} f19) ∗ (View.loc (c : Thread nD τ) arg20.view ↦[arg20.view.set]{fullShare} f20) ∗ (View.loc (c : Thread nD τ) arg21.view ↦[arg21.view.set]{fullShare} f21) ∗ (View.loc (c : Thread nD τ) arg22.view ↦[arg22.view.set]{fullShare} f22) ∗ (View.loc (c : Thread nD τ) arg23.view ↦[arg23.view.set]{fullShare} f23) ∗ (View.loc (c : Thread nD τ) arg24.view ↦[arg24.view.set]{fullShare} f24) ∗ (∃ f, (View.loc (c : Thread nD τ) arg25.view ↦[arg25.view.set]{fullShare} f)) ∗ (View.loc (c : Thread nD τ) arg26.view ↦[arg26.view.set]{fullShare} f26) ∗ (View.loc (c : Thread nD τ) arg27.view ↦[arg27.view.set]{fullShare} f27) ∗ (∃ f, (View.loc (c : Thread nD τ) arg28.view ↦[arg28.view.set]{fullShare} f)) ∗ (∃ f, (View.loc (c : Thread nD τ) arg29.view ↦[arg29.view.set]{fullShare} f)) ∗ (∃ f, (View.loc (c : Thread nD τ) arg30.view ↦[arg30.view.set]{fullShare} f)) ∗ (∃ f, (View.loc (c : Thread nD τ) arg31.view ↦[arg31.view.set]{fullShare} f)) ∗ (∃ f, (View.loc (c : Thread nD τ) arg32.view ↦[arg32.view.set]{fullShare} f)) ∗ (∃ f, (View.loc (c : Thread nD τ) arg33.view ↦[arg33.view.set]{fullShare} f)) ∗ (∃ f, (View.loc (c : Thread nD τ) arg34.view ↦[arg34.view.set]{fullShare} f)) ∗ (∃ f, (View.loc (c : Thread nD τ) arg35.view ↦[arg35.view.set]{fullShare} f)) ∗ (∃ f, (View.loc (c : Thread nD τ) arg36.view ↦[arg36.view.set]{fullShare} f)) ∗ (∃ f, (View.loc (c : Thread nD τ) arg37.view ↦[arg37.view.set]{fullShare} f)) ∗ (∃ f, (View.loc (c : Thread nD τ) arg38.view ↦[arg38.view.set]{fullShare} f)) ∗ (∃ f, (View.loc (c : Thread nD τ) arg39.view ↦[arg39.view.set]{fullShare} f))) -∗ K ⟨⟩))
          ⊢ wp frame (wpE (defs₀ (F := F)) Variants.none c none) E (cc0_swiglu_int4_lora i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
  intro f1 f2 f3 f4 f5 f6 f7 f8 f9 f10 f11 f12 f13 f14 f15 f16 f17 f18 f19 f20 f21 f22 f23 f24 f25 f26 f27 f28 f29 f30 f31 f32 f33 f34 f35 f36 f37 f38 f39 E K
  simp only [cc0_swiglu_int4_lora_eq_skeleton]; unfold cc0_swiglu_int4_lora_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  sl_exec (disch := first | sl_exact hc0 | sl_exact hc1 | sl_exact hc2 | sl_exact hc3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexact H26
  isplitl [H27]; · iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.KernelIdeal.Gen

end
-- ==== Proof.StepCD.lean ====
module

public import proofs.«01_k».proof.Proof.Windows
public import proofs.«01_k».proof.Proof.IdealKeepRun.RunC

/-! The points of the down half. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 4000000 in
/-- The step between the two halves keeps both results. -/
theorem stepC (c : Dev nD) (t : Fin cfg0.N) (hcase : t.val = 14) :
    StepGoal m c t := by
  unfold StepGoal
  intro f1 f2 f3 f4 f5 f6 f7 f8 f9 f10 f11 f12 f13 f14 f15 f16 f17 f18 f19 f20 f21 f22 f23 f24 f25 f26 f27 f28 f29 f30 f31 f32 f33 f34 f35 f36 f37 f38 f39 h1 h2 h3 h4 h5 h6 h7 h8 h9 h10 h11 h12 h13 h14 h15 h16 h17 h18 h19 h20 h29 E K
  have hN : t.val < 21 := lt_of_lt_of_eq t.isLt (show cfg0.N = 21 from N_0)
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  iapply (Gen.runC (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) (fun h => absurd ((hcond0_0 t).mp h) (by omega)) (fun h => absurd ((hcond0_1 t).mp h) (by omega)) ((hcond0_2 t).mpr (by omega)) ((hcond0_3 t).mpr (by omega)) f1 f2 f3 f4 f5 f6 f7 f8 f9 f10 f11 f12 f13 f14 f15 f16 f17 f18 f19 f20 f21 f22 f23 f24 f25 f26 f27 f28 f29 f30 f31 f32 f33 f34 f35 f36 f37 f38 f39 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, ⟨%g25, H25⟩, H26, H27, ⟨%g28, H28⟩, ⟨%g29, H29⟩, ⟨%g30, H30⟩, ⟨%g31, H31⟩, ⟨%g32, H32⟩, ⟨%g33, H33⟩, ⟨%g34, H34⟩, ⟨%g35, H35⟩, ⟨%g36, H36⟩, ⟨%g37, H37⟩, ⟨%g38, H38⟩, ⟨%g39, H39⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; isplitr; (· ipureintro; exact fun b k => (if_neg (by omega)).symm); iexact H26
  isplitl [H27]; · iexists _; isplitr; (· ipureintro; unfold LowStep; rw [if_neg (by omega)]); iexact H27
  isplitl [H28]; · iexists _; iexact H28
  isplitl [H29]; · iexists g29; isplitr; (· ipureintro; intro h; omega); iexact H29
  isplitl [H30]; · iexists _; iexact H30
  isplitl [H31]; · iexists _; iexact H31
  isplitl [H32]; · iexists g32; isplitr; (· ipureintro; intro h; omega); iexact H32
  isplitl [H33]; · iexists g33; isplitr; (· ipureintro; intro h; omega); iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

set_option maxHeartbeats 4000000 in
/-- A down step keeps both results. -/
theorem stepD (c : Dev nD) (t : Fin cfg0.N) (hcase : 14 < t.val) :
    StepGoal m c t := by
  unfold StepGoal
  intro f1 f2 f3 f4 f5 f6 f7 f8 f9 f10 f11 f12 f13 f14 f15 f16 f17 f18 f19 f20 f21 f22 f23 f24 f25 f26 f27 f28 f29 f30 f31 f32 f33 f34 f35 f36 f37 f38 f39 h1 h2 h3 h4 h5 h6 h7 h8 h9 h10 h11 h12 h13 h14 h15 h16 h17 h18 h19 h20 h29 E K
  have hN : t.val < 21 := lt_of_lt_of_eq t.isLt (show cfg0.N = 21 from N_0)
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, Hk⟩
  iapply (Gen.runD (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) (scM0_10) (Memref.isWhole_whole _) (fun h => absurd ((hcond0_0 t).mp h) (by omega)) (fun h => absurd ((hcond0_1 t).mp h) (by omega)) (fun h => absurd ((hcond0_2 t).mp h) (by omega)) ((hcond0_3 t).mpr (by omega)) f1 f2 f3 f4 f5 f6 f7 f8 f9 f10 f11 f12 f13 f14 f15 f16 f17 f18 f19 f20 f21 f22 f23 f24 f25 f26 f27 f28 f29 f30 f31 f32 f33 f34 f35 f36 f37 f38 f39 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iintro ⟨H1, H2, H3, H4, H5, H6, H7, H8, H9, H10, H11, H12, H13, H14, H15, H16, H17, H18, H19, H20, H21, H22, H23, H24, ⟨%g25, H25⟩, H26, H27, ⟨%g28, H28⟩, ⟨%g29, H29⟩, ⟨%g30, H30⟩, ⟨%g31, H31⟩, ⟨%g32, H32⟩, ⟨%g33, H33⟩, ⟨%g34, H34⟩, ⟨%g35, H35⟩, ⟨%g36, H36⟩, ⟨%g37, H37⟩, ⟨%g38, H38⟩, ⟨%g39, H39⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; isplitr; (· ipureintro; exact fun b k => (if_neg (by omega)).symm); iexact H26
  isplitl [H27]; · iexists _; isplitr; (· ipureintro; unfold LowStep; rw [if_neg (by omega)]); iexact H27
  isplitl [H28]; · iexists _; iexact H28
  isplitl [H29]; · iexists g29; isplitr; (· ipureintro; intro h; omega); iexact H29
  isplitl [H30]; · iexists _; iexact H30
  isplitl [H31]; · iexists _; iexact H31
  isplitl [H32]; · iexists g32; isplitr; (· ipureintro; intro h; omega); iexact H32
  isplitl [H33]; · iexists g33; isplitr; (· ipureintro; intro h; omega); iexact H33
  isplitl [H34]; · iexists _; iexact H34
  isplitl [H35]; · iexists _; iexact H35
  isplitl [H36]; · iexists _; iexact H36
  isplitl [H37]; · iexists _; iexact H37
  isplitl [H38]; · iexists _; iexact H38
  iexists _; iexact H39

end Cert.KernelIdeal.Hand

end
-- ==== Proof.ValueFrame.lean ====
module

public import proofs.«01_k».proof.Proof.StepOne
public import proofs.«01_k».proof.Proof.StepB
public import proofs.«01_k».proof.Proof.StepCD
public import Idealize.ShloMosaic.Lib.Pipeline.DatRel

/-! The launch: what the pipeline leaves in the hidden activation and in the low-rank values, and the frame. -/

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The outputs, whose buffers are held to a property instead of to a value. -/
def marked0 : Fin 28 → Bool := fun w => w.val == 24 || w.val == 25 || w.val == 26 || w.val == 27

/-- What a step leaves in an output's buffer: the hidden columns stored so far, and the low-rank values. -/
def outRel (c : Dev nD) : (w : Fin cfg0.W) → Fin cfg0.N → ((cfg0.win w).block.Idx → Elt Ideal (cfg0.win w).elt) → Prop
  | ⟨25, _⟩, t, X => HidOK m c (t.val + 1) X
  | ⟨26, _⟩, _, X => LowOK m c X
  | _, _, _ => True

/-- What the scratch buffers hold before point `n`. -/
def kept (c : Dev nD) (n : ℕ) : sProp 𝕄 :=
  iprop(iprop((∃ d, ⌜1 ≤ n → n ≤ 14 → XpOK m c d⌝ ∗ owns (c : Thread nD τ) scM0_0 fullShare d) ∗ (∃ d, owns (c : Thread nD τ) scM0_1 fullShare d) ∗ (∃ d, owns (c : Thread nD τ) scM0_2 fullShare d) ∗ (∃ d, ⌜1 ≤ n → n ≤ 14 → WideOK m c 0 d⌝ ∗ owns (c : Thread nD τ) scM0_3 fullShare d) ∗ (∃ d, ⌜1 ≤ n → n ≤ 14 → WideOK m c 1 d⌝ ∗ owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg (nD := nD) (τ := τ) (sig := sig) (Ix := Unit) (Val := Elt Ideal) (Name := ℕ) (U := UR sig nD τ) (Lvl := ℕ) c r))

/-- The proof data of the pipeline. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | w => Pipeline.Dat.unnamed (cfg := cfg0) w t
  Φ t := kept m c t.val
  q w := Pipeline.shareOf spec0 w
  owed _ := 0

theorem A_eq (c : Dev nD) (w : Fin cfg0.W) : (dats m c).A w = V m c (Pipeline.arrRef spec0 w) := by
  rfl

/-- Before a later step the hidden buffer holds the columns stored so far. -/
theorem found_hid (c : Dev nD) (t : Fin cfg0.N) (ht : 1 ≤ t.val) {Y : (cfg0.win 25).block.Idx → Elt Ideal (cfg0.win 25).elt}
    (h : ((dats m c).toRRel marked0 (outRel m c)).Finds 25 t Y) : HidOK m c t.val Y := by
  have hN : t.val < 21 := lt_of_lt_of_eq t.isLt (show cfg0.N = 21 from N_0)
  rcases (Pipeline.RDat.finds_of_pos _ (show (cfg0.win 25).fetch t = false from rfl) (by omega) Y).mp h with h | h
  · have := (flush0_25 _).mp h
    simp only at this
    omega
  · have := Dat.toRRel_leaves _ (show marked0 25 = true from rfl) h
    exact (show HidOK m c (t.val - 1 + 1) Y from this) |> fun e => by rwa [Nat.sub_add_cancel ht] at e

/-- After the first step the low-rank buffer holds the low-rank values. -/
theorem found_low (c : Dev nD) (t : Fin cfg0.N) (ht : 1 ≤ t.val) {Y : (cfg0.win 26).block.Idx → Elt Ideal (cfg0.win 26).elt}
    (h : ((dats m c).toRRel marked0 (outRel m c)).Finds 26 t Y) : LowOK m c Y := by
  have hN : t.val < 21 := lt_of_lt_of_eq t.isLt (show cfg0.N = 21 from N_0)
  rcases (Pipeline.RDat.finds_of_pos _ (show (cfg0.win 26).fetch t = false from rfl) (by omega) Y).mp h with h | h
  · have := (flush0_26 _).mp h
    simp only at this
    omega
  · exact Dat.toRRel_leaves _ (show marked0 26 = true from rfl) h

/-- One step, whichever it is. -/
theorem run_val (c : Dev nD) (t : Fin cfg0.N) :
    StepGoal m c t := by
  by_cases h0 : t.val = 0
  · exact stepA m c t h0
  · by_cases h1 : t.val < 14
    · exact stepB m c t ⟨by omega, h1⟩
    · by_cases h2 : t.val = 14
      · exact stepC m c t h2
      · exact stepD m c t (by omega)

/-- What the body is given at a point. -/
def bodyPre (c : Dev nD) (t : Fin cfg0.N) : sProp 𝕄 :=
  iprop(kept m c t.val ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d))
    ∗ (∃ d, owns (c : Thread nD τ) (ms0_8 t) fullShare ((dats m c).before 8 t d))
    ∗ (∃ d, owns (c : Thread nD τ) (ms0_9 t) fullShare ((dats m c).before 9 t d))
    ∗ (∃ d, owns (c : Thread nD τ) (ms0_10 t) fullShare ((dats m c).before 10 t d))
    ∗ (∃ d, owns (c : Thread nD τ) (ms0_11 t) fullShare ((dats m c).before 11 t d))
    ∗ (∃ d, owns (c : Thread nD τ) (ms0_12 t) fullShare ((dats m c).before 12 t d))
    ∗ (∃ d, owns (c : Thread nD τ) (ms0_13 t) fullShare ((dats m c).before 13 t d))
    ∗ (∃ d, owns (c : Thread nD τ) (ms0_14 t) fullShare ((dats m c).before 14 t d))
    ∗ (∃ d, owns (c : Thread nD τ) (ms0_15 t) fullShare ((dats m c).before 15 t d))
    ∗ (∃ d, owns (c : Thread nD τ) (ms0_16 t) fullShare ((dats m c).before 16 t d))
    ∗ (∃ d, owns (c : Thread nD τ) (ms0_17 t) fullShare ((dats m c).before 17 t d))
    ∗ (∃ d, owns (c : Thread nD τ) (ms0_18 t) fullShare ((dats m c).before 18 t d))
    ∗ (∃ d, owns (c : Thread nD τ) (ms0_19 t) fullShare ((dats m c).before 19 t d))
    ∗ (∃ d, owns (c : Thread nD τ) (ms0_20 t) fullShare ((dats m c).before 20 t d))
    ∗ (∃ d, owns (c : Thread nD τ) (ms0_21 t) fullShare ((dats m c).before 21 t d))
    ∗ (∃ d, owns (c : Thread nD τ) (ms0_22 t) fullShare ((dats m c).before 22 t d))
    ∗ (∃ d, owns (c : Thread nD τ) (ms0_23 t) fullShare ((dats m c).before 23 t d))
    ∗ (∃ Y, ⌜((dats m c).toRRel marked0 (outRel m c)).Finds 24 t Y⌝ ∗ owns (c : Thread nD τ) (ms0_24 t) fullShare Y)
    ∗ (∃ Y, ⌜((dats m c).toRRel marked0 (outRel m c)).Finds 25 t Y⌝ ∗ owns (c : Thread nD τ) (ms0_25 t) fullShare Y)
    ∗ (∃ Y, ⌜((dats m c).toRRel marked0 (outRel m c)).Finds 26 t Y⌝ ∗ owns (c : Thread nD τ) (ms0_26 t) fullShare Y)
    ∗ (∃ Y, ⌜((dats m c).toRRel marked0 (outRel m c)).Finds 27 t Y⌝ ∗ owns (c : Thread nD τ) (ms0_27 t) fullShare Y))

/-- What the body hands back at a point. -/
def bodyPost (c : Dev nD) (t : Fin cfg0.N) : sProp 𝕄 :=
  iprop(kept m c (t.val + 1) ∗ (dats m c).owesAt () t.succ
    ∗ (dats m c).leaves 0 t
    ∗ (dats m c).leaves 1 t
    ∗ (dats m c).leaves 2 t
    ∗ (dats m c).leaves 3 t
    ∗ (dats m c).leaves 4 t
    ∗ (dats m c).leaves 5 t
    ∗ (dats m c).leaves 6 t
    ∗ (dats m c).leaves 7 t
    ∗ (dats m c).leaves 8 t
    ∗ (dats m c).leaves 9 t
    ∗ (dats m c).leaves 10 t
    ∗ (dats m c).leaves 11 t
    ∗ (dats m c).leaves 12 t
    ∗ (dats m c).leaves 13 t
    ∗ (dats m c).leaves 14 t
    ∗ (dats m c).leaves 15 t
    ∗ (dats m c).leaves 16 t
    ∗ (dats m c).leaves 17 t
    ∗ (dats m c).leaves 18 t
    ∗ (dats m c).leaves 19 t
    ∗ (dats m c).leaves 20 t
    ∗ (dats m c).leaves 21 t
    ∗ (dats m c).leaves 22 t
    ∗ (dats m c).leaves 23 t
    ∗ (∃ X, ⌜True⌝ ∗ owns (c : Thread nD τ) (ms0_24 t) fullShare X)
    ∗ (∃ X, ⌜HidOK m c (t.val + 1) X⌝ ∗ owns (c : Thread nD τ) (ms0_25 t) fullShare X)
    ∗ (∃ X, ⌜LowOK m c X⌝ ∗ owns (c : Thread nD τ) (ms0_26 t) fullShare X)
    ∗ (∃ X, ⌜True⌝ ∗ owns (c : Thread nD τ) (ms0_27 t) fullShare X))

/-- The buffer of a window the body touches at every point is handed back at what the data names. -/
theorem leaves_live (c : Dev nD) (w : Fin cfg0.W) (t : Fin cfg0.N) (hl : cfg0.idle w (grid0.coords t) = false) (ho : cfg0.loose w = false) :
    (dats m c).leaves w t = owns (c : Thread nD τ) ((cfg0.win w).stage (cfg0.slots t w)) fullShare ((dats m c).after w t) := by
  unfold Dat.leaves; rw [hl, ho]

set_option maxHeartbeats 4000000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0_of m (dats m c) (A_eq m c 0) (fun _ => rfl), before0_1_of m (dats m c) (A_eq m c 1) (fun _ => rfl), before0_2_of m (dats m c) (A_eq m c 2) (fun _ => rfl), before0_3_of m (dats m c) (A_eq m c 3) (fun _ => rfl), before0_4_of m (dats m c) (A_eq m c 4) (fun _ => rfl), before0_5_of m (dats m c) (A_eq m c 5) (fun _ => rfl), before0_6_of m (dats m c) (A_eq m c 6) (fun _ => rfl), before0_7_of m (dats m c) (A_eq m c 7) (fun _ => rfl), before0_8_of m (dats m c) (A_eq m c 8) (fun _ => rfl), before0_9_of m (dats m c) (A_eq m c 9) (fun _ => rfl), before0_10_of m (dats m c) (A_eq m c 10) (fun _ => rfl), before0_11_of m (dats m c) (A_eq m c 11) (fun _ => rfl), before0_12_of m (dats m c) (A_eq m c 12) (fun _ => rfl), before0_13_of m (dats m c) (A_eq m c 13) (fun _ => rfl), before0_14_of m (dats m c) (A_eq m c 14) (fun _ => rfl), before0_15_of m (dats m c) (A_eq m c 15) (fun _ => rfl), before0_16_of m (dats m c) (A_eq m c 16) (fun _ => rfl), before0_17_of m (dats m c) (A_eq m c 17) (fun _ => rfl), before0_18_of m (dats m c) (A_eq m c 18) (fun _ => rfl), before0_19_of m (dats m c) (A_eq m c 19) (fun _ => rfl), before0_20_of m (dats m c) (A_eq m c 20) (fun _ => rfl), before0_21_of m (dats m c) (A_eq m c 21) (fun _ => rfl), before0_22_of m (dats m c) (A_eq m c 22) (fun _ => rfl), before0_23_of m (dats m c) (A_eq m c 23) (fun _ => rfl)]
  rw [show (dats m c).owesAt () t.succ = (dats m c).owesAt () t.castSucc from rfl]
  rw [leaves_live m c 0 t (liveAt0_0 t) rfl, leaves_live m c 1 t (liveAt0_1 t) rfl, leaves_live m c 2 t (liveAt0_2 t) rfl, leaves_live m c 3 t (liveAt0_3 t) rfl, leaves_live m c 4 t (liveAt0_4 t) rfl, leaves_live m c 5 t (liveAt0_5 t) rfl, leaves_live m c 6 t (liveAt0_6 t) rfl, leaves_live m c 7 t (liveAt0_7 t) rfl, leaves_live m c 8 t (liveAt0_8 t) rfl, leaves_live m c 9 t (liveAt0_9 t) rfl, leaves_live m c 10 t (liveAt0_10 t) rfl, leaves_live m c 11 t (liveAt0_11 t) rfl, leaves_live m c 12 t (liveAt0_12 t) rfl, leaves_live m c 13 t (liveAt0_13 t) rfl, leaves_live m c 14 t (liveAt0_14 t) rfl, leaves_live m c 15 t (liveAt0_15 t) rfl, leaves_live m c 16 t (liveAt0_16 t) rfl, leaves_live m c 17 t (liveAt0_17 t) rfl, leaves_live m c 18 t (liveAt0_18 t) rfl, leaves_live m c 19 t (liveAt0_19 t) rfl, leaves_live m c 20 t (liveAt0_20 t) rfl, leaves_live m c 21 t (liveAt0_21 t) rfl, leaves_live m c 22 t (liveAt0_22 t) rfl, leaves_live m c 23 t (liveAt0_23 t) rfl]
  unfold owns kept owns
  iintro ⟨⟨⟨⟨%ds0, %ks0, %fs0, %hs0, HS0⟩, ⟨%ds1, %fs1, -, HS1⟩, ⟨%ds2, %fs2, -, HS2⟩, ⟨%ds3, %ks3, %fs3, %hs3, HS3⟩, ⟨%ds4, %ks4, %fs4, %hs4, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %hr24, %f24, %hf24, H24⟩, ⟨%d25, %hr25, %f25, %hf25, H25⟩, ⟨%d26, %hr26, %f26, %hf26, H26⟩, ⟨%d27, %hr27, %f27, %hf27, H27⟩⟩
  iapply (run_val m c t f0 f1 f2 f3 f4 f5 f6 f7 f8 f9 f10 f11 f12 f13 f14 f15 f16 f17 f18 f19 f20 f21 f22 f23 f24 f25 f26 f27 fs0 fs1 fs2 fs3 fs4 fs5 fs6 fs7 fs8 fs9 fs10 hf0 hf1 hf2 hf3 hf4 hf5 hf6 hf7 hf8 hf9 hf10 hf11 hf12 hf13 hf14 hf15 hf16 hf17 hf18 hf19 (fun h1 h2 => by rw [hs0, hs3, hs4]; exact ⟨ks0 h1 (by omega), ks3 h1 (by omega), ks4 h1 (by omega)⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, H21, H22, H23, ⟨%gH24, H24⟩, ⟨%gH25, %k25, H25⟩, ⟨%gH26, %k26, H26⟩, ⟨%gH27, H27⟩, ⟨%gHS0, %kS0, HS0⟩, ⟨%gHS1, HS1⟩, ⟨%gHS2, HS2⟩, ⟨%gHS3, %kS3, HS3⟩, ⟨%gHS4, %kS4, HS4⟩, ⟨%gHS5, HS5⟩, ⟨%gHS6, HS6⟩, ⟨%gHS7, HS7⟩, ⟨%gHS8, HS8⟩, ⟨%gHS9, HS9⟩, ⟨%gHS10, HS10⟩⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexists (scM0_0.view.read (Elt Ideal) gHS0); (isplitr; (· ipureintro; exact fun _ h => kS0 (by omega)); iexists gHS0; (isplitr; (· ipureintro; exact rfl); iexact HS0))
      isplitl [HS1]; · iexists (scM0_1.view.read (Elt Ideal) gHS1); iexists gHS1; (isplitr; (· ipureintro; exact rfl); iexact HS1)
      isplitl [HS2]; · iexists (scM0_2.view.read (Elt Ideal) gHS2); iexists gHS2; (isplitr; (· ipureintro; exact rfl); iexact HS2)
      isplitl [HS3]; · iexists (scM0_3.view.read (Elt Ideal) gHS3); (isplitr; (· ipureintro; exact fun _ h => kS3 (by omega)); iexists gHS3; (isplitr; (· ipureintro; exact rfl); iexact HS3))
      isplitl [HS4]; · iexists (scM0_4.view.read (Elt Ideal) gHS4); (isplitr; (· ipureintro; exact fun _ h => kS4 (by omega)); iexists gHS4; (isplitr; (· ipureintro; exact rfl); iexact HS4))
      isplitl [HS5]; · iexists (scM0_5.view.read (Elt Ideal) gHS5); iexists gHS5; (isplitr; (· ipureintro; exact rfl); iexact HS5)
      isplitl [HS6]; · iexists (scM0_6.view.read (Elt Ideal) gHS6); iexists gHS6; (isplitr; (· ipureintro; exact rfl); iexact HS6)
      isplitl [HS7]; · iexists (scM0_7.view.read (Elt Ideal) gHS7); iexists gHS7; (isplitr; (· ipureintro; exact rfl); iexact HS7)
      isplitl [HS8]; · iexists (scM0_8.view.read (Elt Ideal) gHS8); iexists gHS8; (isplitr; (· ipureintro; exact rfl); iexact HS8)
      isplitl [HS9]; · iexists (scM0_9.view.read (Elt Ideal) gHS9); iexists gHS9; (isplitr; (· ipureintro; exact rfl); iexact HS9)
      iexists (scM0_10.view.read (Elt Ideal) gHS10); iexists gHS10; (isplitr; (· ipureintro; exact rfl); iexact HS10)
    iexact Hg
  isplitl [Ho]; · iexact Ho
  isplitl [H0]; · iexists f0; (isplitr; (· ipureintro; exact hf0); iexact H0)
  isplitl [H1]; · iexists f1; (isplitr; (· ipureintro; exact hf1); iexact H1)
  isplitl [H2]; · iexists f2; (isplitr; (· ipureintro; exact hf2); iexact H2)
  isplitl [H3]; · iexists f3; (isplitr; (· ipureintro; exact hf3); iexact H3)
  isplitl [H4]; · iexists f4; (isplitr; (· ipureintro; exact hf4); iexact H4)
  isplitl [H5]; · iexists f5; (isplitr; (· ipureintro; exact hf5); iexact H5)
  isplitl [H6]; · iexists f6; (isplitr; (· ipureintro; exact hf6); iexact H6)
  isplitl [H7]; · iexists f7; (isplitr; (· ipureintro; exact hf7); iexact H7)
  isplitl [H8]; · iexists f8; (isplitr; (· ipureintro; exact hf8); iexact H8)
  isplitl [H9]; · iexists f9; (isplitr; (· ipureintro; exact hf9); iexact H9)
  isplitl [H10]; · iexists f10; (isplitr; (· ipureintro; exact hf10); iexact H10)
  isplitl [H11]; · iexists f11; (isplitr; (· ipureintro; exact hf11); iexact H11)
  isplitl [H12]; · iexists f12; (isplitr; (· ipureintro; exact hf12); iexact H12)
  isplitl [H13]; · iexists f13; (isplitr; (· ipureintro; exact hf13); iexact H13)
  isplitl [H14]; · iexists f14; (isplitr; (· ipureintro; exact hf14); iexact H14)
  isplitl [H15]; · iexists f15; (isplitr; (· ipureintro; exact hf15); iexact H15)
  isplitl [H16]; · iexists f16; (isplitr; (· ipureintro; exact hf16); iexact H16)
  isplitl [H17]; · iexists f17; (isplitr; (· ipureintro; exact hf17); iexact H17)
  isplitl [H18]; · iexists f18; (isplitr; (· ipureintro; exact hf18); iexact H18)
  isplitl [H19]; · iexists f19; (isplitr; (· ipureintro; exact hf19); iexact H19)
  isplitl [H20]; · iexists f20; (isplitr; (· ipureintro; exact hf20); iexact H20)
  isplitl [H21]; · iexists f21; (isplitr; (· ipureintro; exact hf21); iexact H21)
  isplitl [H22]; · iexists f22; (isplitr; (· ipureintro; exact hf22); iexact H22)
  isplitl [H23]; · iexists f23; (isplitr; (· ipureintro; exact hf23); iexact H23)
  isplitl [H24]; · iexists ((ms0_24 t).view.read (Elt Ideal) gH24); (isplitr; (· ipureintro; exact trivial); iexists gH24; (isplitr; (· ipureintro; exact rfl); iexact H24))
  isplitl [H25]; · iexists ((ms0_25 t).view.read (Elt Ideal) gH25); (isplitr; (· ipureintro; exact hid_next m c t.val _ _ (fun h => by rw [hf25]; exact found_hid m c t h hr25) k25); iexists gH25; (isplitr; (· ipureintro; exact rfl); iexact H25))
  isplitl [H26]; · iexists ((ms0_26 t).view.read (Elt Ideal) gH26); (isplitr; (· ipureintro; exact low_next m c t.val _ _ (fun h => by rw [hf26]; exact found_low m c t h hr26) k26); iexists gH26; (isplitr; (· ipureintro; exact rfl); iexact H26))
  iexists ((ms0_27 t).view.read (Elt Ideal) gH27); (isplitr; (· ipureintro; exact trivial); iexists gH27; (isplitr; (· ipureintro; exact rfl); iexact H27))

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : Pipeline.BodyObligationRel (dats m c) (defs₀ (F := Ideal)) Variants.none () Set.univ marked0 (outRel m c) := fun t => by
  rw [bigSep_W0, bigSep_W0, defs₀_row]
  exact triple_restated (sound_body m c t) rfl .rfl fun _ => .rfl

theorem kept_of (c : Dev nD) : Pipeline.ΦA spec0 c ⊢ kept m c 0 := by
  rw [PhiA0_eq]; unfold kept
  iintro ⟨⟨⟨%d0, HS0⟩, ⟨%d1, HS1⟩, ⟨%d2, HS2⟩, ⟨%d3, HS3⟩, ⟨%d4, HS4⟩, ⟨%d5, HS5⟩, ⟨%d6, HS6⟩, ⟨%d7, HS7⟩, ⟨%d8, HS8⟩, ⟨%d9, HS9⟩, ⟨%d10, HS10⟩⟩, Hg⟩
  isplitl [HS0 HS1 HS2 HS3 HS4 HS5 HS6 HS7 HS8 HS9 HS10]
  · isplitl [HS0]; · iexists d0; (isplitr; (· ipureintro; exact fun h => absurd h (by omega)); iexact HS0)
    isplitl [HS1]; · iexists d1; iexact HS1
    isplitl [HS2]; · iexists d2; iexact HS2
    isplitl [HS3]; · iexists d3; (isplitr; (· ipureintro; exact fun h => absurd h (by omega)); iexact HS3)
    isplitl [HS4]; · iexists d4; (isplitr; (· ipureintro; exact fun h => absurd h (by omega)); iexact HS4)
    isplitl [HS5]; · iexists d5; iexact HS5
    isplitl [HS6]; · iexists d6; iexact HS6
    isplitl [HS7]; · iexists d7; iexact HS7
    isplitl [HS8]; · iexists d8; iexact HS8
    isplitl [HS9]; · iexists d9; iexact HS9
    iexists d10; iexact HS10
  iexact Hg

theorem of_kept (c : Dev nD) (n : ℕ) : kept m c n ⊢ Pipeline.ΦA spec0 c := by
  rw [PhiA0_eq]; unfold kept
  iintro ⟨⟨⟨%d0, -, HS0⟩, ⟨%d1, HS1⟩, ⟨%d2, HS2⟩, ⟨%d3, -, HS3⟩, ⟨%d4, -, HS4⟩, ⟨%d5, HS5⟩, ⟨%d6, HS6⟩, ⟨%d7, HS7⟩, ⟨%d8, HS8⟩, ⟨%d9, HS9⟩, ⟨%d10, HS10⟩⟩, Hg⟩
  isplitl [HS0 HS1 HS2 HS3 HS4 HS5 HS6 HS7 HS8 HS9 HS10]
  · isplitl [HS0]; · iexists d0; iexact HS0
    isplitl [HS1]; · iexists d1; iexact HS1
    isplitl [HS2]; · iexists d2; iexact HS2
    isplitl [HS3]; · iexists d3; iexact HS3
    isplitl [HS4]; · iexists d4; iexact HS4
    isplitl [HS5]; · iexists d5; iexact HS5
    isplitl [HS6]; · iexists d6; iexact HS6
    isplitl [HS7]; · iexists d7; iexact HS7
    isplitl [HS8]; · iexists d8; iexact HS8
    isplitl [HS9]; · iexists d9; iexact HS9
    iexists d10; iexact HS10
  iexact Hg

-- the launch's implicit arguments are found by unifying its conclusion with this one
set_option backward.isDefEq.respectTransparency.types false in
/-- The launch. -/
theorem run_main_quiescent : θ_run defs (onTc (τ := τ) (main (F := Ideal))) (s₀ m ρ)
    (fun r => (Pipeline.RDat.FramePost (cfgs 0) (fun c => (dats m c).toRRel marked0 (outRel m c)) (V m)) r ∧ r.2.sem = fun _ => 0) :=
  Pipeline.RDat.θ_run_frame_track_shared (Q' := _) cfgs (0 : Fin 1) launch₀0 defs₀ Variants.none (fun c => (dats m c).toRRel marked0 (outRel m c)) m ρ main
    (hbody := fun c => (body_obligation m c).toRRel) (hq := fun _ _ _ => rfl)
    (howed := fun _ _ => rfl) (V := V m) (hmain := hmain m Variants.none) (hA := A_eq m) (hin := fun c => kept_of m c) (hout := fun c => of_kept m c _)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (fun c => (dats m c).toRRel marked0 (outRel m c)) (A_eq m) ((θ_run defs _ _).mono (fun _ h => h.1) (run_main_quiescent m ρ))

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Hand

end
-- ==== Proof.Reference.lean ====
module

public import proofs.«01_k».proof.Proof.Gen.ReferenceIdeal.Run

/-!
  The reference's results as functions of the argument arrays, stage by stage: the one-hot of the adapter index, the
  gathered scales, the two halves of the dequantised gate-up weight, and the results `s` and `h`. Each generated
  result term is the corresponding function of the launch contents, by `rfl`.
-/

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The one-hot rows of the adapter index. -/
def refOneHot (A1 : Vec F S96 .i32) : FVec F S96x9 .f32 :=
  uitofp .f32 (cmpi .eq (broadcastInDim S96x9 ![0, 1] bcast_S96x1_S96x9_0_1 (broadcastInDim S96x1 ![0] bcast_S96_S96x1_0 A1)) (broadcastInDim S96x9 ![0, 1] bcast_S1x9_S96x9_0_1 (iotaInDim S1x9 32 1)))

/-- Each row's LoRA scale. -/
def refScale (A1 : Vec F S96 .i32) (A12 : Vec F S9 .f32) : FVec F S96 .f32 :=
  Host.gather gather_S9_S96x1_S96_n_0_n_n_0_1_1 A12 (broadcastInDim S96x1 ![0] bcast_S96_S96x1_0 (select (cmpi .slt A1 (broadcastInDim S96 ![] bcast_S_S96 (constantI S_ 32 0#32))) (addi A1 (broadcastInDim S96 ![] bcast_S_S96 (constantI S_ 32 9#32))) A1))

/-- The first half of the dequantised gate-up weight (low fields). -/
def refGuLo (A2 : Vec F S1792x28672 .i8) (A3 : Vec F S28x28672 .bf16) (A4 : Vec F S28x28672 .i8) : FVec F S1792x28672 .bf16 :=
  shapeCast _ (mulf (subf (shapeCast _ (sitofp .bf16 (andi (extui 32 A2 natLt_8_32) (broadcastInDim S1792x28672 ![] bcast_S_S1792x28672 (constantI S_ 32 15#32)))) shapeCasts_S1792x28672_S14x128x28672) (broadcastInDim S14x128x28672 ![0, 1, 2] bcast_S14x1x28672_S14x128x28672_0_1_2 (broadcastInDim S14x1x28672 ![0, 2] bcast_S14x28672_S14x1x28672_0_2 (extractStridedSlice S14x28672 ![0, 0] (sitofp .bf16 (extui 32 A4 natLt_8_32)) slices_S28x28672_S14x28672_0_0)))) (broadcastInDim S14x128x28672 ![0, 1, 2] bcast_S14x1x28672_S14x128x28672_0_1_2 (broadcastInDim S14x1x28672 ![0, 2] bcast_S14x28672_S14x1x28672_0_2 (extractStridedSlice S14x28672 ![0, 0] A3 slices_S28x28672_S14x28672_0_0)))) shapeCasts_S14x128x28672_S1792x28672

/-- The second half of the dequantised gate-up weight (high fields). -/
def refGuHi (A2 : Vec F S1792x28672 .i8) (A3 : Vec F S28x28672 .bf16) (A4 : Vec F S28x28672 .i8) : FVec F S1792x28672 .bf16 :=
  shapeCast _ (mulf (subf (shapeCast _ (sitofp .bf16 (Host.shrsi (extui 32 A2 natLt_8_32) (broadcastInDim S1792x28672 ![] bcast_S_S1792x28672 (constantI S_ 32 4#32)))) shapeCasts_S1792x28672_S14x128x28672) (broadcastInDim S14x128x28672 ![0, 1, 2] bcast_S14x1x28672_S14x128x28672_0_1_2 (broadcastInDim S14x1x28672 ![0, 2] bcast_S14x28672_S14x1x28672_0_2 (extractStridedSlice S14x28672 ![14, 0] (sitofp .bf16 (extui 32 A4 natLt_8_32)) slices_S28x28672_S14x28672_14_0)))) (broadcastInDim S14x128x28672 ![0, 1, 2] bcast_S14x1x28672_S14x128x28672_0_1_2 (broadcastInDim S14x1x28672 ![0, 2] bcast_S14x28672_S14x1x28672_0_2 (extractStridedSlice S14x28672 ![14, 0] A3 slices_S28x28672_S14x28672_14_0)))) shapeCasts_S14x128x28672_S1792x28672

/-- The gate-up LoRA intermediate `s`. -/
def refS (A0 : Vec F S96x1x3584 .bf16) (A1 : Vec F S96 .i32) (A8 : Vec F S9x3584x64 .bf16) (A12 : Vec F S9 .f32) : FVec F S96x64 .bf16 :=
  truncf .bf16 (mulf (Host.dotGeneral dot_S96x9_S96x9x64_S96x64_1_1_n_2_0_0 (some .fp32) (refOneHot A1) (Host.dotGeneral dot_S96x3584_S9x3584x64_S96x9x64_1_1_0_02_n_n none (shapeCast _ A0 shapeCasts_S96x1x3584_S96x3584) A8)) (broadcastInDim S96x64 ![0, 1] bcast_S96x1_S96x64_0_1 (broadcastInDim S96x1 ![0] bcast_S96_S96x1_0 (refScale A1 A12)))) bitsLt_bf16_f32

/-- The gate and up pre-activations. -/
def refGU (A0 : Vec F S96x1x3584 .bf16) (A1 : Vec F S96 .i32) (A2 : Vec F S1792x28672 .i8) (A3 : Vec F S28x28672 .bf16) (A4 : Vec F S28x28672 .i8) (A8 : Vec F S9x3584x64 .bf16) (A9 : Vec F S9x2x32x14336 .bf16) (A12 : Vec F S9 .f32) : FVec F S96x2x14336 .f32 :=
  addf (shapeCast _ (addf (Host.dotGeneral dot_S96x1792_S1792x28672_S96x28672_1_0_0_1_n_n none (extractStridedSlice S96x1792 ![0, 0] (shapeCast _ A0 shapeCasts_S96x1x3584_S96x3584) slices_S96x3584_S96x1792_0_0) (refGuLo A2 A3 A4)) (Host.dotGeneral dot_S96x1792_S1792x28672_S96x28672_1_0_0_1_n_n none (extractStridedSlice S96x1792 ![0, 1792] (shapeCast _ A0 shapeCasts_S96x1x3584_S96x3584) slices_S96x3584_S96x1792_0_1792) (refGuHi A2 A3 A4))) shapeCasts_S96x28672_S96x2x14336) (transpose S96x2x14336 [2, 0, 1] (Host.dotGeneral dot_S9x2x32x14336_S96x9x2x32_S2x14336x96_02_13_3_0_1_2 none A9 (mulf (broadcastInDim S96x9x2x32 ![0, 1, 2, 3] bcast_S96x9x1x1_S96x9x2x32_0_1_2_3 (broadcastInDim S96x9x1x1 ![0, 1] bcast_S96x9_S96x9x1x1_0_1 (truncf .bf16 (refOneHot A1) bitsLt_bf16_f32))) (broadcastInDim S96x9x2x32 ![0, 1, 2, 3] bcast_S96x1x2x32_S96x9x2x32_0_1_2_3 (shapeCast _ (refS A0 A1 A8 A12) shapeCasts_S96x64_S96x1x2x32)))) transposes_S2x14336x96_S96x2x14336_2_0_1)

/-- The hidden activations `h`. -/
def refH (A0 : Vec F S96x1x3584 .bf16) (A1 : Vec F S96 .i32) (A2 : Vec F S1792x28672 .i8) (A3 : Vec F S28x28672 .bf16) (A4 : Vec F S28x28672 .i8) (A8 : Vec F S9x3584x64 .bf16) (A9 : Vec F S9x2x32x14336 .bf16) (A12 : Vec F S9 .f32) : FVec F S96x14336 .bf16 :=
  truncf .bf16 (mulf (mulf (shapeCast _ (extractStridedSlice S96x1x14336 ![0, 0, 0] (refGU A0 A1 A2 A3 A4 A8 A9 A12) slices_S96x2x14336_S96x1x14336_0_0_0) shapeCasts_S96x1x14336_S96x14336) (Host.divf (broadcastInDim S96x14336 ![] bcast_S_S96x14336 (constant S_ .f32 0x3F800000#32)) (addf (broadcastInDim S96x14336 ![] bcast_S_S96x14336 (constant S_ .f32 0x3F800000#32)) (Host.exp (Host.negf (shapeCast _ (extractStridedSlice S96x1x14336 ![0, 0, 0] (refGU A0 A1 A2 A3 A4 A8 A9 A12) slices_S96x2x14336_S96x1x14336_0_0_0) shapeCasts_S96x1x14336_S96x14336)))))) (shapeCast _ (extractStridedSlice S96x1x14336 ![0, 1, 0] (refGU A0 A1 A2 A3 A4 A8 A9 A12) slices_S96x2x14336_S96x1x14336_0_1_0) shapeCasts_S96x1x14336_S96x14336)) bitsLt_bf16_f32

theorem res_out0_eq (m : (ℓ : Loc nD τ sig) → Buf (Elt F) ℓ) (c : Dev nD) :
    res_out0 m c = refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) (m ((c.tc : Thread nD τ).loc main_arg12)) := rfl

end Cert.ReferenceIdeal.Value

end
-- ==== Proof.RefAt.lean ====
module

public import proofs.«01_k».proof.Proof.Reference
public import Idealize.ShloMosaic.Lib.Pointwise
public import Idealize.ShloMosaic.Lib.Claim
public import Idealize.ShloMosaic.Lib.ValueLayout
public import Idealize.ShloMosaic.Lib.KernelVsHost
public import Idealize.ShloMosaic.Lib.Routing.OpsSet
public import Idealize.ShloMosaic.Lib.Routing.OpsSet
public import Idealize.ShloMosaic.Lib.Routing.OpsSet

/-! The reference's results, entry by entry. -/

@[expose] public section

noncomputable section

namespace Cert.ReferenceIdeal.Value

open Cert.ReferenceIdeal Cert.ReferenceIdeal.Gen Idealize.ShloMosaic Idealize.ShloMosaic.TcCoe Idealize.ShloMosaic.Tactic Idealize.ShloMosaic.Pointwise Idealize.ShloMosaic.StableHlo

variable (A0 : Vec Ideal S96x1x3584 .bf16) (A1 : Vec Ideal S96 .i32) (A2 : Vec Ideal S1792x28672 .i8) (A3 : Vec Ideal S28x28672 .bf16)
  (A4 : Vec Ideal S28x28672 .i8) (A8 : Vec Ideal S9x3584x64 .bf16) (A9 : Vec Ideal S9x2x32x14336 .bf16) (A12 : Vec Ideal S9 .f32)

theorem guLo_apply (x : Fin 1792) (f : Fin 28672) : (refGuLo A2 A3 A4 (ix2 x f) : EReal)
    = (FloatOps.sitofp (F := Ideal) .bf16 (IntOp.andi ((A2 (ix2 x f)).setWidth 32) 15#32)
        - FloatOps.sitofp (F := Ideal) .bf16 ((A4 (ix2 (⟨x.val / 128, by omega⟩ : Fin 28) f)).setWidth 32))
      * A3 (ix2 (⟨x.val / 128, by omega⟩ : Fin 28) f) := by
  pointwise [refGuLo]

theorem guHi_apply (x : Fin 1792) (f : Fin 28672) : (refGuHi A2 A3 A4 (ix2 x f) : EReal)
    = (FloatOps.sitofp (F := Ideal) .bf16 (IntOp.shrsi .host ((A2 (ix2 x f)).setWidth 32) 4#32)
        - FloatOps.sitofp (F := Ideal) .bf16 ((A4 (ix2 (⟨14 + x.val / 128, by omega⟩ : Fin 28) f)).setWidth 32))
      * A3 (ix2 (⟨14 + x.val / 128, by omega⟩ : Fin 28) f) := by
  pointwise [refGuHi]

theorem oneHot_apply (b : Fin 96) (n : Fin 9) :
    (refOneHot (F := Ideal) A1 (ix2 b n) : EReal) = if A1 (ix1 b) = BitVec.ofNat 32 n.val then 1 else 0 := by
  pointwise [refOneHot]
  unfold IntOp.cmpi
  by_cases h : A1 (ix1 b) = BitVec.ofNat 32 n.val
  · rw [if_pos h, h]; simp [FloatOps.uitofp]
  · rw [if_neg h]
    have : (A1 (ix1 b) == BitVec.ofNat 32 n.val) = false := by simpa using h
    simp [this, FloatOps.uitofp]

theorem scale_apply (b : Fin 96) (n : Fin 9) (h : A1 (ix1 b) = BitVec.ofNat 32 n.val) :
    (refScale (F := Ideal) A1 A12 (ix1 b) : EReal) = A12 (ix1 n) := by
  unfold refScale
  refine Routing.gather_take1 gather_S9_S96x1_S96_n_0_n_n_0_1_1 rfl rfl rfl rfl A12 _ b n ?_ (by decide)
  pointwise []
  rw [h]
  clear h
  revert n
  decide

theorem s_apply (b : Fin 96) (r : Fin 64) : (refS A0 A1 A8 A12 (ix2 b r) : EReal)
    = (∑ n : Fin 9, refOneHot (F := Ideal) A1 (ix2 b n) * ∑ k : Fin 3584, A0 (ix3 b (0 : Fin 1) k) * A8 (ix3 n k r)) * refScale (F := Ideal) A1 A12 (ix1 b) := by
  pointwise [refS]

theorem gu_apply (b : Fin 96) (t : Fin 2) (f : Fin 14336) : (refGU A0 A1 A2 A3 A4 A8 A9 A12 (ix3 b t f) : EReal)
    = ∑ x : Fin 1792, A0 (ix3 b (0 : Fin 1) (⟨x.val, by omega⟩ : Fin 3584)) * refGuLo A2 A3 A4 (ix2 x (⟨t.val * 14336 + f.val, by omega⟩ : Fin 28672))
      + ∑ x : Fin 1792, A0 (ix3 b (0 : Fin 1) (⟨1792 + x.val, by omega⟩ : Fin 3584)) * refGuHi A2 A3 A4 (ix2 x (⟨t.val * 14336 + f.val, by omega⟩ : Fin 28672))
      + ∑ n : Fin 9, ∑ r : Fin 32, A9 (ix4 n t r f) * (refOneHot (F := Ideal) A1 (ix2 b n) * refS A0 A1 A8 A12 (ix2 b (⟨t.val * 32 + r.val, by omega⟩ : Fin 64))) := by
  pointwise [refGU]

theorem h_apply (b : Fin 96) (f : Fin 14336) : (refH A0 A1 A2 A3 A4 A8 A9 A12 (ix2 b f) : EReal)
    = refGU A0 A1 A2 A3 A4 A8 A9 A12 (ix3 b (0 : Fin 2) f) * Ideal.logistic (refGU A0 A1 A2 A3 A4 A8 A9 A12 (ix3 b (0 : Fin 2) f))
      * refGU A0 A1 A2 A3 A4 A8 A9 A12 (ix3 b (1 : Fin 2) f) := by
  pointwise [refH, Ideal.logistic]

end Cert.ReferenceIdeal.Value

end
-- ==== Proof.Agree.lean ====
module

public import proofs.«01_k».proof.Proof.Spec
public import proofs.«01_k».proof.Proof.RefAt

/-! The kernel's sums are the reference's: the low-rank values and the hidden activation, entry by entry. -/

@[expose] public section

noncomputable section

namespace Cert.KernelIdeal.Hand

open Idealize.ShloMosaic Idealize.ShloMosaic.TcCoe Idealize.ShloMosaic.Tactic Cert.KernelIdeal
open Cert.ReferenceIdeal.Value (refOneHot refScale refGuLo refGuHi refS refGU refH)

variable (X : Vec Ideal S96x3584 .bf16) (I : Vec Ideal S1x96 .i32) (G : Vec Ideal S576x3584 .bf16)
  (A0 : Vec Ideal S96x1x3584 .bf16) (A1 : Vec Ideal S96 .i32) (A2 : Vec Ideal S1792x28672 .i8) (A3 : Vec Ideal S28x28672 .bf16)
  (A4 : Vec Ideal S28x28672 .i8) (A8 : Vec Ideal S9x3584x64 .bf16) (A9 : Vec Ideal S9x2x32x14336 .bf16) (A12 : Vec Ideal S9 .f32)

/-- The kernel's arrays are the arguments in the kernel's own layout. -/
structure Laid : Prop where
  act : ∀ b k, X (ix2 b k) = A0 (ix3 b (0 : Fin 1) k)
  idx : ∀ b, I (ix2 (0 : Fin 1) b) = A1 (ix1 b)
  low : ∀ (n : Fin 9) (r : Fin 64) (k : Fin 3584), G (ix2 (⟨64 * n.val + r.val, by omega⟩ : Fin 576) k) = A8 (ix3 n k r)

variable {X I G A0 A1 A8}

theorem one_agree (h : Laid X I G A0 A1 A8) (b : Fin 96) (n : Fin 9) :
    one (I (ix2 (0 : Fin 1) b)) n.val = refOneHot (F := Ideal) A1 (ix2 b n) := by
  rw [Cert.ReferenceIdeal.Value.oneHot_apply, h.idx]; rfl

theorem low_agree (h : Laid X I G A0 A1 A8) (b : Fin 96) (r : Fin 64) :
    lowOf X I A12 G b r = refS A0 A1 A8 A12 (ix2 b r) := by
  rw [Cert.ReferenceIdeal.Value.s_apply]
  unfold lowOf
  have e : (∑ n : Fin 9, one (I (ix2 (0 : Fin 1) b)) n.val * ∑ k : Fin 3584, (G (ix2 (⟨64 * n.val + r.val, by omega⟩ : Fin 576) k) : EReal) * X (ix2 b k))
      = ∑ n : Fin 9, refOneHot (F := Ideal) A1 (ix2 b n) * ∑ k : Fin 3584, A0 (ix3 b (0 : Fin 1) k) * A8 (ix3 n k r) := by
    refine Finset.sum_congr rfl fun n _ => ?_
    rw [one_agree h]
    congr 1
    exact Finset.sum_congr rfl fun k _ => by rw [h.low, h.act, mul_comm]
  rw [e]
  by_cases hn : ∃ n : Fin 9, A1 (ix1 b) = BitVec.ofNat 32 n.val
  · obtain ⟨n, hn⟩ := hn
    congr 1
    rw [Cert.ReferenceIdeal.Value.scale_apply A1 A12 b n hn, Finset.sum_eq_single n]
    · rw [one_agree h, Cert.ReferenceIdeal.Value.oneHot_apply, if_pos hn, one_mul]
    · intro k _ hk
      rw [one_agree h, Cert.ReferenceIdeal.Value.oneHot_apply, if_neg, zero_mul]
      intro he
      rw [hn] at he
      exact hk ((show ∀ k n : Fin 9, BitVec.ofNat 32 n.val = BitVec.ofNat 32 k.val → k = n by decide) k n he)
    · intro hm; exact absurd (Finset.mem_univ n) hm
  · have z : (∑ n : Fin 9, refOneHot (F := Ideal) A1 (ix2 b n) * ∑ k : Fin 3584, A0 (ix3 b (0 : Fin 1) k) * A8 (ix3 n k r)) = (0 : EReal) := by
      refine Finset.sum_eq_zero fun n _ => ?_
      rw [Cert.ReferenceIdeal.Value.oneHot_apply, if_neg (fun he => hn ⟨n, he⟩), zero_mul]
    rw [z, zero_mul, zero_mul]

/-- One term of the base product, at group `g` and place `k`; zero outside. -/
def rowTerm (X : Vec Ideal S96x3584 .bf16) (b : Fin 96) (f : Fin 28672) (g k : ℕ) : EReal :=
  if h : g < 14 ∧ k < 256 then
    xpOf X ⟨g, h.1⟩ b ⟨k, h.2⟩
      * ((codeOf (k % 2) (A2 (ix2 (⟨128 * g + k / 2, by omega⟩ : Fin 1792) f))
          - FloatOps.sitofp (F := Ideal) .bf16 ((A4 (ix2 (⟨14 * (k % 2) + g, by omega⟩ : Fin 28) f)).setWidth 32))
        * A3 (ix2 (⟨14 * (k % 2) + g, by omega⟩ : Fin 28) f))
  else 0

/-- One term of the adapter product. -/
def loraTerm (X : Vec Ideal S96x3584 .bf16) (I : Vec Ideal S1x96 .i32) (G : Vec Ideal S576x3584 .bf16) (t : Fin 2) (b : Fin 96) (f : Fin 14336) (n r : ℕ) : EReal :=
  if h : n < 9 ∧ r < 32 then
    one (I (ix2 (0 : Fin 1) b)) n * lowOf X I A12 G b ⟨32 * t.val + r, by omega⟩ * A9 (ix4 (⟨n, h.1⟩ : Fin 9) t (⟨r, h.2⟩ : Fin 32) f)
  else 0

theorem row_even (h : Laid X I G A0 A1 A8) (b : Fin 96) (f : Fin 28672) (x : Fin 1792) :
    rowTerm A2 A3 A4 X b f (x.val / 128) (2 * (x.val % 128))
      = A0 (ix3 b (0 : Fin 1) (⟨x.val, by omega⟩ : Fin 3584)) * refGuLo A2 A3 A4 (ix2 x f) := by
  have hx := x.isLt
  have e0 : 2 * (x.val % 128) % 2 = 0 := by omega
  have e1 : 128 * (x.val / 128) + 2 * (x.val % 128) / 2 = x.val := by omega
  unfold rowTerm
  rw [dif_pos ⟨by omega, by omega⟩, Cert.ReferenceIdeal.Value.guLo_apply]
  unfold xpOf codeOf codeLo
  simp only [e0, e1, Nat.mul_zero, Nat.zero_add, if_pos Nat.zero_lt_one]
  rw [h.act]
  rfl

theorem row_odd (h : Laid X I G A0 A1 A8) (b : Fin 96) (f : Fin 28672) (x : Fin 1792) :
    rowTerm A2 A3 A4 X b f (x.val / 128) (2 * (x.val % 128) + 1)
      = A0 (ix3 b (0 : Fin 1) (⟨1792 + x.val, by omega⟩ : Fin 3584)) * refGuHi A2 A3 A4 (ix2 x f) := by
  have hx := x.isLt
  have e0 : (2 * (x.val % 128) + 1) % 2 = 1 := by omega
  have e1 : 128 * (x.val / 128) + (2 * (x.val % 128) + 1) / 2 = x.val := by omega
  have e2 : 1792 + 128 * (x.val / 128) + (2 * (x.val % 128) + 1) / 2 = 1792 + x.val := by omega
  unfold rowTerm
  rw [dif_pos ⟨by omega, by omega⟩, Cert.ReferenceIdeal.Value.guHi_apply]
  unfold xpOf codeOf codeHi
  simp only [e0, e1, e2, Nat.mul_one, if_neg (lt_irrefl 1)]
  rw [h.act, shrsi_unit .vector .host]
  rfl

theorem proj_agree (h : Laid X I G A0 A1 A8) (t : Fin 2) (b : Fin 96) (f : Fin 14336) :
    projOf X I A12 G A2 A3 A4 A9 t b f = refGU A0 A1 A2 A3 A4 A8 A9 A12 (ix3 b t f) := by
  rw [Cert.ReferenceIdeal.Value.gu_apply]
  unfold projOf
  congr 1
  · have e := sum_rows (rowTerm A2 A3 A4 X b (⟨t.val * 14336 + f.val, by omega⟩ : Fin 28672))
    refine (Finset.sum_congr rfl fun g _ => Finset.sum_congr rfl fun k _ => ?_).trans (e.trans ?_)
    · unfold rowTerm
      rw [dif_pos ⟨g.isLt, k.isLt⟩]
    · congr 1
      · exact Finset.sum_congr rfl fun x _ => row_even A2 A3 A4 h b _ x
      · exact Finset.sum_congr rfl fun x _ => row_odd A2 A3 A4 h b _ x
  · have e := sum_adapters (loraTerm A9 A12 X I G t b f)
    refine (Finset.sum_congr rfl fun k _ => ?_).trans (e.trans ?_)
    · unfold loraTerm wideOf
      rw [dif_pos ⟨by omega, by omega⟩]
    · refine Finset.sum_congr rfl fun n _ => Finset.sum_congr rfl fun r _ => ?_
      unfold loraTerm
      rw [dif_pos ⟨n.isLt, r.isLt⟩, one_agree h, low_agree A12 h, mul_comm]
      congr 3
      exact congrArg (ix2 b) (Fin.ext (by simp only [Nat.mul_comm]))

theorem hid_agree (h : Laid X I G A0 A1 A8) (b : Fin 96) (f : Fin 14336) :
    hiddenOf X I A12 G A2 A3 A4 A9 b f = refH A0 A1 A2 A3 A4 A8 A9 A12 (ix2 b f) := by
  rw [Cert.ReferenceIdeal.Value.h_apply]
  unfold hiddenOf
  rw [proj_agree A2 A3 A4 A9 A12 h, proj_agree A2 A3 A4 A9 A12 h]

end Cert.KernelIdeal.Hand

end
-- ==== Proof.Layout.lean ====
module

public import proofs.«01_k».proof.Proof.Agree
public import proofs.«01_k».proof.Proof.IdealKit
public import Idealize.ShloMosaic.Lib.Claim
public import Idealize.ShloMosaic.Lib.Pipeline.ValueKit

/-! The arrays the pipeline finds are the arguments: reshaped, and the low-rank weights transposed and reshaped. -/

@[expose] public section

noncomputable section

namespace Cert.KernelIdeal.Hand

open Cert.KernelIdeal.Gen
open Idealize.ShloMosaic Idealize.ShloMosaic.TcCoe Idealize.ShloMosaic.Tactic

variable (m : (ℓ : Loc nD τ sig) → Buf (Elt Ideal) ℓ)

theorem act_read (A : Vec Ideal S96x1x3584 .bf16) (b : Fin 96) (k : Fin 3584) :
    (shapeCast S96x3584 A Facts₀.shapeCasts_S96x1x3584_S96x3584 : Vec Ideal S96x3584 .bf16) (ix2 b k) = A (ix3 b (0 : Fin 1) k) := by
  pointwise []

theorem idx_read (A : Vec Ideal S96 .i32) (b : Fin 96) :
    (shapeCast S1x96 A Facts₀.shapeCasts_S96_S1x96 : Vec Ideal S1x96 .i32) (ix2 (0 : Fin 1) b) = A (ix1 b) := by
  pointwise []

theorem low_weight_read (A : Vec Ideal S9x3584x64 .bf16) (n : Fin 9) (r : Fin 64) (k : Fin 3584) :
    (shapeCast S576x3584 (transpose S9x64x3584 [0, 2, 1] A Facts₀.transposes_S9x3584x64_S9x64x3584_0_2_1 : Vec Ideal S9x64x3584 .bf16)
      Facts₀.shapeCasts_S9x64x3584_S576x3584 : Vec Ideal S576x3584 .bf16) (ix2 (⟨64 * n.val + r.val, by omega⟩ : Fin 576) k) = A (ix3 n k r) := by
  have e1 : (64 * n.val + r.val) / 64 = n.val := by omega
  have e2 : (64 * n.val + r.val) % 64 = r.val := by omega
  pointwise [e1, e2]

theorem found_act (c : Dev nD) (b : Fin 96) (k : Fin 3584) :
    (V m c main_v0 : Vec Ideal S96x3584 .bf16) (ix2 b k) = (m ((c : Thread nD τ).loc main_arg0) : Vec Ideal S96x1x3584 .bf16) (ix3 b (0 : Fin 1) k) := by
  entry_read
  exact act_read _ b k

theorem found_idx (c : Dev nD) (b : Fin 96) :
    (V m c main_v1 : Vec Ideal S1x96 .i32) (ix2 (0 : Fin 1) b) = (m ((c : Thread nD τ).loc main_arg1) : Vec Ideal S96 .i32) (ix1 b) := by
  entry_read
  exact idx_read _ b

theorem found_low_weight (c : Dev nD) (n : Fin 9) (r : Fin 64) (k : Fin 3584) :
    (V m c main_v3 : Vec Ideal S576x3584 .bf16) (ix2 (⟨64 * n.val + r.val, by omega⟩ : Fin 576) k)
      = (m ((c : Thread nD τ).loc main_arg8) : Vec Ideal S9x3584x64 .bf16) (ix3 n k r) := by
  entry_read
  exact low_weight_read _ n r k

theorem laid (c : Dev nD) : Laid (V m c main_v0) (V m c main_v1) (V m c main_v3) (m ((c : Thread nD τ).loc main_arg0))
    (m ((c : Thread nD τ).loc main_arg1)) (m ((c : Thread nD τ).loc main_arg8)) :=
  ⟨found_act m c, found_idx m c, found_low_weight m c⟩

end Cert.KernelIdeal.Hand

end
-- ==== Proof.Results.lean ====
module

public import proofs.«01_k».proof.Proof.ValueFrame
public import proofs.«01_k».proof.Proof.Layout
public import Idealize.ShloMosaic.Lib.Pipeline.ArrRel

/-! What the kernel's run ends with: the reference's hidden activation and low-rank values. -/

@[expose] public section

noncomputable section

namespace Cert.KernelIdeal.Hand

open Cert.KernelIdeal.Gen
open Idealize.ShloMosaic Idealize.ShloMosaic.TcCoe Idealize.ShloMosaic.Tactic Idealize.SL.Sem
open Idealize.ShloMosaic.Pipeline (Dat Cfg Window)
open Cert.ReferenceIdeal.Value (refS refH)

variable (m : (ℓ : Loc nD τ sig) → Buf (Elt Ideal) ℓ) (ρ : Dev nD → PrngReg)

/-- The last grid point. -/
def tEnd : Fin cfg0.N := ⟨20, by rw [show cfg0.N = 21 from N_0]; omega⟩

theorem hid_final {r : PUnit × MemSt nD τ sig (Elt Ideal)}
    (h : Pipeline.RDat.FramePost (cfgs 0) (fun c => (dats m c).toRRel marked0 (outRel m c)) (V m) r) (c : Dev nD) :
    r.2.mem ((c.tc : Thread nD τ).loc main_v5_1)
      = refH (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg8)) (m ((c : Thread nD τ).loc main_arg9)) (m ((c : Thread nD τ).loc main_arg12)) := by
  obtain ⟨X, hX, hG⟩ := ((h c).1 25).emb_eq_of_wholeAt (t₀ := tEnd) (by decide +kernel)
  have hid : HidOK m c 21 X := Dat.toRRel_leaves _ (show marked0 25 = true from rfl) hX
  have key : ∀ (b : Fin 96) (k : Fin 14336), (r.2.mem ((c.tc : Thread nD τ).loc main_v5_1) : Vec Ideal S96x14336 .bf16) (ix2 b k)
      = refH (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg8)) (m ((c : Thread nD τ).loc main_arg9)) (m ((c : Thread nD τ).loc main_arg12)) (ix2 b k) := fun b k => by
    have hk := k.isLt
    refine (hG (ix2 b k)).trans ((hid b k (by omega)).trans ?_)
    unfold hidAt
    rw [V_main_arg2, V_main_arg3, V_main_arg4, V_main_arg9, V_main_arg12]
    exact hid_agree _ _ _ _ _ (laid m c) b k
  exact funext fun i => (congrArg _ (ix2_eta i).symm).trans ((key (i 0) (i 1)).trans (congrArg _ (ix2_eta i)))

theorem low_final {r : PUnit × MemSt nD τ sig (Elt Ideal)}
    (h : Pipeline.RDat.FramePost (cfgs 0) (fun c => (dats m c).toRRel marked0 (outRel m c)) (V m) r) (c : Dev nD) :
    r.2.mem ((c.tc : Thread nD τ).loc main_v5_2)
      = refS (m ((c : Thread nD τ).loc main_arg0)) (m ((c : Thread nD τ).loc main_arg1)) (m ((c : Thread nD τ).loc main_arg8)) (m ((c : Thread nD τ).loc main_arg12)) := by
  obtain ⟨X, hX, hG⟩ := ((h c).1 26).emb_eq_of_wholeAt (t₀ := tEnd) (by decide +kernel)
  have low : LowOK m c X := Dat.toRRel_leaves _ (show marked0 26 = true from rfl) hX
  have key : ∀ (b : Fin 96) (k : Fin 64), (r.2.mem ((c.tc : Thread nD τ).loc main_v5_2) : Vec Ideal S96x64 .bf16) (ix2 b k)
      = refS (m ((c : Thread nD τ).loc main_arg0)) (m ((c : Thread nD τ).loc main_arg1)) (m ((c : Thread nD τ).loc main_arg8)) (m ((c : Thread nD τ).loc main_arg12)) (ix2 b k) := fun b k => by
    refine (hG (ix2 b k)).trans ((low b k).trans ?_)
    rw [V_main_arg12]
    exact low_agree _ (laid m c) b k
  exact funext fun i => (congrArg _ (ix2_eta i).symm).trans ((key (i 0) (i 1)).trans (congrArg _ (ix2_eta i)))

/-- The run at `Ideal`: the two results, and the arguments unchanged. -/
theorem run : θ_run defs (onTc (τ := τ) (main (F := Ideal))) ⟨m, fun _ => 0, ρ⟩ (fun r => ∀ c : Dev nD,
      r.2.mem ((c.tc : Thread nD τ).loc main_v5_1) = refH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (m ((c : Thread nD τ).loc main_arg12))
      ∧ r.2.mem ((c.tc : Thread nD τ).loc main_v5_2) = refS (m ((c : Thread nD τ).loc main_arg0)) (m ((c : Thread nD τ).loc main_arg1)) (m ((c : Thread nD τ).loc main_arg8)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨hid_final m h.1.1 c, low_final m h.1.1 c, h.2 c⟩) (θ_run_and (run_main_quiescent m ρ) (unchanged m ρ))

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.BitsFrame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Results
public import proofs.«01_k».proof.Proof.Gen.ReferenceIdeal
public import proofs.«01_k».proof.Proof.Gen.ReferenceIdeal.Run
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference is host operations alone, so its frame is its run's statement about the arguments. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The rewrites' distinct statements, in order of first appearance. -/
theorem preserves : Cert.preserves_Kernel_KernelIdeal :=
  ⟨IdealRules.bf16_pair.bufferStatement _ _, IdealRules.bf16_pair.bufferStatement _ _,
    IdealRules.truncf_extf.statement _ _ _, IdealRules.bf16_pair.packStatement _,
    IdealRules.bf16_pair.statement _ _, IdealRules.bf16_pair.statement _ _, IdealRules.bf16_pair.statement _ _,
    IdealRules.truncf_extf.statement _ _ _, IdealRules.bf16_pair.packStatement _,
    IdealRules.bf16_pair.statement _ _, IdealRules.bf16_pair.statement _ _, IdealRules.bf16_pair.statement _ _⟩

/-- The kernel's hidden activations and low-rank values are the reference's, over the extended reals. -/
theorem algebraic : Cert.algebraic_KernelIdeal_ReferenceIdeal := fun m g m' g' _ agree => by
  refine ⟨fun c => Cert.ReferenceIdeal.Value.refH
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg12)),
    fun c => Cert.ReferenceIdeal.Value.refS
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg12)),
    Cert.KernelIdeal.Hand.run m g,
    (θ_run Cert.ReferenceIdeal.defs _ _).mono (fun r h c => ?_) (Cert.ReferenceIdeal.Value.run (F := Ideal) m' g')⟩
  obtain ⟨e0, e1, e2, e3, e4, -, -, -, e8, e9, -, -, e12⟩ := agree c
  refine ⟨(h c).1.trans ?_, (h c).2.1.trans ?_, (h c).2.2⟩
  · beta_reduce
    rw [← e0, ← e1, ← e2, ← e3, ← e4, ← e8, ← e9, ← e12]
    exact Cert.ReferenceIdeal.Value.res_out0_eq m' c
  · beta_reduce
    rw [← e0, ← e1, ← e8, ← e12]
    rfl

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, frame_reference, preserves, algebraic⟩

end Cert.Proof

end
